-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![64, 512]⟩ ⟨2, ![64, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 1024]⟩ ⟨2, ![4096, 1024]⟩ 0 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 1024]⟩ ⟨2, ![4096, 1024]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![512, 1024]⟩ ⟨2, ![4096, 1024]⟩ 0 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 512]⟩ ⟨2, ![1024, 4096]⟩ 1 8 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![1024, 512]⟩ ⟨2, ![1024, 4096]⟩ 1 8 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![1024, 512]⟩ ⟨2, ![1024, 4096]⟩ 1 8 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![64, 512]⟩ ⟨2, ![64, 4096]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x512 : Shape := ⟨2, ![64, 512]⟩
abbrev S512x1024 : Shape := ⟨2, ![512, 1024]⟩
abbrev S1024x512 : Shape := ⟨2, ![1024, 512]⟩
abbrev S8x64x128 : Shape := ⟨3, ![8, 64, 128]⟩
abbrev S7x64x128 : Shape := ⟨3, ![7, 64, 128]⟩
abbrev S64x128 : Shape := ⟨2, ![64, 128]⟩
abbrev S7 : Shape := ⟨1, ![7]⟩
abbrev S_ : Shape := ⟨0, ![]⟩
abbrev S8x1x1 : Shape := ⟨3, ![8, 1, 1]⟩
abbrev S64x1024 : Shape := ⟨2, ![64, 1024]⟩
abbrev S64x8x128 : Shape := ⟨3, ![64, 8, 128]⟩
abbrev S1 : Shape := ⟨1, ![1]⟩
abbrev S1x64x128 : Shape := ⟨3, ![1, 64, 128]⟩

abbrev nBuf : Space → Nat
  | .hbm => 8
  | .vmem => 12
  | .smem => 0
  | _ => 0

abbrev bufTy : (tb : Table) → Fin (tcTables nBuf tb) → BufTy
  | .hbm, ⟨0, _⟩ => ⟨S64x512, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S64x512, .f32⟩
  | .local _ .vmem, ⟨0, _⟩ => ⟨S64x512, .f32⟩
  | .local _ .vmem, ⟨1, _⟩ => ⟨S512x1024, .f32⟩
  | .local _ .vmem, ⟨2, _⟩ => ⟨S1024x512, .f32⟩
  | .local _ .vmem, ⟨3, _⟩ => ⟨S512x1024, .f32⟩
  | .local _ .vmem, ⟨4, _⟩ => ⟨S1024x512, .f32⟩
  | .local _ .vmem, ⟨5, _⟩ => ⟨S512x1024, .f32⟩
  | .local _ .vmem, ⟨6, _⟩ => ⟨S1024x512, .f32⟩
  | .local _ .vmem, ⟨7, _⟩ => ⟨S64x512, .f32⟩
  | .local _ .vmem, ⟨8, _⟩ => ⟨S8x64x128, .bf16⟩
  | .local _ .vmem, ⟨9, _⟩ => ⟨S7x64x128, .bf16⟩
  | .local _ .vmem, ⟨10, _⟩ => ⟨S8x64x128, .bf16⟩
  | .local _ .vmem, ⟨11, _⟩ => ⟨S64x128, .bf16⟩
  | _, _ => ⟨S64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  (ofTc nBuf bufTy 1 37 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v7 : BitVec 32 := Scalar.addi v2 c1_i32_0
  let c8_i32_1 : BitVec 32 := 8#32
  let v8 : BitVec 32 := Scalar.remsi v7 c8_i32_1
  let c1_i32_3 : BitVec 32 := 1#32
  let v9 : BitVec 32 := Scalar.muli v8 c1_i32_3
  let v10 : BitVec 32 := Scalar.addi c0_i32 v9
  v10.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v11 : BitVec 32 := Scalar.addi v2 c2_i32
  let c8_i32_4 : BitVec 32 := 8#32
  let v12 : BitVec 32 := Scalar.remsi v11 c8_i32_4
  let c1_i32_6 : BitVec 32 := 1#32
  let v13 : BitVec 32 := Scalar.muli v12 c1_i32_6
  let v14 : BitVec 32 := Scalar.addi c0_i32_7 v13
  v14.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v15 : BitVec 32 := Scalar.addi v2 c3_i32
  let c8_i32_8 : BitVec 32 := 8#32
  let v16 : BitVec 32 := Scalar.remsi v15 c8_i32_8
  let c1_i32_10 : BitVec 32 := 1#32
  let v17 : BitVec 32 := Scalar.muli v16 c1_i32_10
  let v18 : BitVec 32 := Scalar.addi c0_i32_11 v17
  v18.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v19 : BitVec 32 := Scalar.addi v2 c4_i32
  let c8_i32_12 : BitVec 32 := 8#32
  let v20 : BitVec 32 := Scalar.remsi v19 c8_i32_12
  let c1_i32_14 : BitVec 32 := 1#32
  let v21 : BitVec 32 := Scalar.muli v20 c1_i32_14
  let v22 : BitVec 32 := Scalar.addi c0_i32_15 v21
  v22.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v23 : BitVec 32 := Scalar.addi v2 c5_i32
  let c8_i32_16 : BitVec 32 := 8#32
  let v24 : BitVec 32 := Scalar.remsi v23 c8_i32_16
  let c1_i32_18 : BitVec 32 := 1#32
  let v25 : BitVec 32 := Scalar.muli v24 c1_i32_18
  let v26 : BitVec 32 := Scalar.addi c0_i32_19 v25
  v26.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v27 : BitVec 32 := Scalar.addi v2 c6_i32
  let c8_i32_20 : BitVec 32 := 8#32
  let v28 : BitVec 32 := Scalar.remsi v27 c8_i32_20
  let c1_i32_22 : BitVec 32 := 1#32
  let v29 : BitVec 32 := Scalar.muli v28 c1_i32_22
  let v30 : BitVec 32 := Scalar.addi c0_i32_23 v29
  v30.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v31 : BitVec 32 := Scalar.addi v2 c7_i32
  let c8_i32_24 : BitVec 32 := 8#32
  let v32 : BitVec 32 := Scalar.remsi v31 c8_i32_24
  let c1_i32_26 : BitVec 32 := 1#32
  let v33 : BitVec 32 := Scalar.muli v32 c1_i32_26
  let v34 : BitVec 32 := Scalar.addi c0_i32_27 v33
  v34.toNat
def k0_off1 (d0 : Dev nD) (c1_i32_35 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v46 : BitVec 32 := Scalar.addi v2 c1_i32_35
  let c8_i32_36 : BitVec 32 := 8#32
  let v47 : BitVec 32 := Scalar.remsi v46 c8_i32_36
  let c0_i32_44 : BitVec 32 := 0#32
  let c0_i32_45 : BitVec 32 := 0#32
  ![v47.toNat, 0, 0]
def k0_dev8 (d0 : Dev nD) : Nat :=
  let c0_i32_41 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_35 : BitVec 32 := 1#32
  let v46 : BitVec 32 := Scalar.addi v2 c1_i32_35
  let c8_i32_36 : BitVec 32 := 8#32
  let v47 : BitVec 32 := Scalar.remsi v46 c8_i32_36
  let c1_i32_40 : BitVec 32 := 1#32
  let v48 : BitVec 32 := Scalar.muli v47 c1_i32_40
  let v49 : BitVec 32 := Scalar.addi c0_i32_41 v48
  v49.toNat
def k0_dev9 (d0 : Dev nD) : Nat :=
  let c0_i32_52 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_46 : BitVec 32 := 2#32
  let v58 : BitVec 32 := Scalar.addi v2 c2_i32_46
  let c8_i32_47 : BitVec 32 := 8#32
  let v59 : BitVec 32 := Scalar.remsi v58 c8_i32_47
  let c1_i32_51 : BitVec 32 := 1#32
  let v60 : BitVec 32 := Scalar.muli v59 c1_i32_51
  let v61 : BitVec 32 := Scalar.addi c0_i32_52 v60
  v61.toNat
def k0_dev10 (d0 : Dev nD) : Nat :=
  let c0_i32_63 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_57 : BitVec 32 := 3#32
  let v70 : BitVec 32 := Scalar.addi v2 c3_i32_57
  let c8_i32_58 : BitVec 32 := 8#32
  let v71 : BitVec 32 := Scalar.remsi v70 c8_i32_58
  let c1_i32_62 : BitVec 32 := 1#32
  let v72 : BitVec 32 := Scalar.muli v71 c1_i32_62
  let v73 : BitVec 32 := Scalar.addi c0_i32_63 v72
  v73.toNat
def k0_dev11 (d0 : Dev nD) : Nat :=
  let c0_i32_74 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_68 : BitVec 32 := 4#32
  let v82 : BitVec 32 := Scalar.addi v2 c4_i32_68
  let c8_i32_69 : BitVec 32 := 8#32
  let v83 : BitVec 32 := Scalar.remsi v82 c8_i32_69
  let c1_i32_73 : BitVec 32 := 1#32
  let v84 : BitVec 32 := Scalar.muli v83 c1_i32_73
  let v85 : BitVec 32 := Scalar.addi c0_i32_74 v84
  v85.toNat
def k0_dev12 (d0 : Dev nD) : Nat :=
  let c0_i32_85 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_79 : BitVec 32 := 5#32
  let v94 : BitVec 32 := Scalar.addi v2 c5_i32_79
  let c8_i32_80 : BitVec 32 := 8#32
  let v95 : BitVec 32 := Scalar.remsi v94 c8_i32_80
  let c1_i32_84 : BitVec 32 := 1#32
  let v96 : BitVec 32 := Scalar.muli v95 c1_i32_84
  let v97 : BitVec 32 := Scalar.addi c0_i32_85 v96
  v97.toNat
def k0_dev13 (d0 : Dev nD) : Nat :=
  let c0_i32_96 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_90 : BitVec 32 := 6#32
  let v106 : BitVec 32 := Scalar.addi v2 c6_i32_90
  let c8_i32_91 : BitVec 32 := 8#32
  let v107 : BitVec 32 := Scalar.remsi v106 c8_i32_91
  let c1_i32_95 : BitVec 32 := 1#32
  let v108 : BitVec 32 := Scalar.muli v107 c1_i32_95
  let v109 : BitVec 32 := Scalar.addi c0_i32_96 v108
  v109.toNat
def k0_dev14 (d0 : Dev nD) : Nat :=
  let c0_i32_107 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_101 : BitVec 32 := 7#32
  let v118 : BitVec 32 := Scalar.addi v2 c7_i32_101
  let c8_i32_102 : BitVec 32 := 8#32
  let v119 : BitVec 32 := Scalar.remsi v118 c8_i32_102
  let c1_i32_106 : BitVec 32 := 1#32
  let v120 : BitVec 32 := Scalar.muli v119 c1_i32_106
  let v121 : BitVec 32 := Scalar.addi c0_i32_107 v120
  v121.toNat
def k0_off2 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_201 : BitVec 32 := 0#32
  let c0_i32_202 : BitVec 32 := 0#32
  ![v2.toNat, 0, 0]
def k0_dev15 (d0 : Dev nD) : Nat :=
  let c0_i32_200 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_195 : BitVec 32 := 1#32
  let v225 : BitVec 32 := Scalar.addi v2 c1_i32_195
  let c8_i32_196 : BitVec 32 := 8#32
  let v226 : BitVec 32 := Scalar.remsi v225 c8_i32_196
  let c1_i32_199 : BitVec 32 := 1#32
  let v227 : BitVec 32 := Scalar.muli v226 c1_i32_199
  let v228 : BitVec 32 := Scalar.addi c0_i32_200 v227
  v228.toNat
def k0_dev16 (d0 : Dev nD) : Nat :=
  let c0_i32_208 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_203 : BitVec 32 := 2#32
  let v235 : BitVec 32 := Scalar.addi v2 c2_i32_203
  let c8_i32_204 : BitVec 32 := 8#32
  let v236 : BitVec 32 := Scalar.remsi v235 c8_i32_204
  let c1_i32_207 : BitVec 32 := 1#32
  let v237 : BitVec 32 := Scalar.muli v236 c1_i32_207
  let v238 : BitVec 32 := Scalar.addi c0_i32_208 v237
  v238.toNat
def k0_dev17 (d0 : Dev nD) : Nat :=
  let c0_i32_216 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_211 : BitVec 32 := 3#32
  let v245 : BitVec 32 := Scalar.addi v2 c3_i32_211
  let c8_i32_212 : BitVec 32 := 8#32
  let v246 : BitVec 32 := Scalar.remsi v245 c8_i32_212
  let c1_i32_215 : BitVec 32 := 1#32
  let v247 : BitVec 32 := Scalar.muli v246 c1_i32_215
  let v248 : BitVec 32 := Scalar.addi c0_i32_216 v247
  v248.toNat
def k0_dev18 (d0 : Dev nD) : Nat :=
  let c0_i32_224 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_219 : BitVec 32 := 4#32
  let v255 : BitVec 32 := Scalar.addi v2 c4_i32_219
  let c8_i32_220 : BitVec 32 := 8#32
  let v256 : BitVec 32 := Scalar.remsi v255 c8_i32_220
  let c1_i32_223 : BitVec 32 := 1#32
  let v257 : BitVec 32 := Scalar.muli v256 c1_i32_223
  let v258 : BitVec 32 := Scalar.addi c0_i32_224 v257
  v258.toNat
def k0_dev19 (d0 : Dev nD) : Nat :=
  let c0_i32_232 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_227 : BitVec 32 := 5#32
  let v265 : BitVec 32 := Scalar.addi v2 c5_i32_227
  let c8_i32_228 : BitVec 32 := 8#32
  let v266 : BitVec 32 := Scalar.remsi v265 c8_i32_228
  let c1_i32_231 : BitVec 32 := 1#32
  let v267 : BitVec 32 := Scalar.muli v266 c1_i32_231
  let v268 : BitVec 32 := Scalar.addi c0_i32_232 v267
  v268.toNat
def k0_dev20 (d0 : Dev nD) : Nat :=
  let c0_i32_240 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_235 : BitVec 32 := 6#32
  let v275 : BitVec 32 := Scalar.addi v2 c6_i32_235
  let c8_i32_236 : BitVec 32 := 8#32
  let v276 : BitVec 32 := Scalar.remsi v275 c8_i32_236
  let c1_i32_239 : BitVec 32 := 1#32
  let v277 : BitVec 32 := Scalar.muli v276 c1_i32_239
  let v278 : BitVec 32 := Scalar.addi c0_i32_240 v277
  v278.toNat
def k0_dev21 (d0 : Dev nD) : Nat :=
  let c0_i32_248 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_243 : BitVec 32 := 7#32
  let v285 : BitVec 32 := Scalar.addi v2 c7_i32_243
  let c8_i32_244 : BitVec 32 := 8#32
  let v286 : BitVec 32 := Scalar.remsi v285 c8_i32_244
  let c1_i32_247 : BitVec 32 := 1#32
  let v287 : BitVec 32 := Scalar.muli v286 c1_i32_247
  let v288 : BitVec 32 := Scalar.addi c0_i32_248 v287
  v288.toNat
def k0_dev22 (d0 : Dev nD) : Nat :=
  let c0_i32_402 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_396 : BitVec 32 := 1#32
  let v428 : BitVec 32 := Scalar.addi v2 c1_i32_396
  let c8_i32_397 : BitVec 32 := 8#32
  let v429 : BitVec 32 := Scalar.remsi v428 c8_i32_397
  let c1_i32_401 : BitVec 32 := 1#32
  let v430 : BitVec 32 := Scalar.muli v429 c1_i32_401
  let v431 : BitVec 32 := Scalar.addi c0_i32_402 v430
  v431.toNat
def k0_dev23 (d0 : Dev nD) : Nat :=
  let c0_i32_413 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_407 : BitVec 32 := 2#32
  let v440 : BitVec 32 := Scalar.addi v2 c2_i32_407
  let c8_i32_408 : BitVec 32 := 8#32
  let v441 : BitVec 32 := Scalar.remsi v440 c8_i32_408
  let c1_i32_412 : BitVec 32 := 1#32
  let v442 : BitVec 32 := Scalar.muli v441 c1_i32_412
  let v443 : BitVec 32 := Scalar.addi c0_i32_413 v442
  v443.toNat
def k0_dev24 (d0 : Dev nD) : Nat :=
  let c0_i32_424 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_418 : BitVec 32 := 3#32
  let v452 : BitVec 32 := Scalar.addi v2 c3_i32_418
  let c8_i32_419 : BitVec 32 := 8#32
  let v453 : BitVec 32 := Scalar.remsi v452 c8_i32_419
  let c1_i32_423 : BitVec 32 := 1#32
  let v454 : BitVec 32 := Scalar.muli v453 c1_i32_423
  let v455 : BitVec 32 := Scalar.addi c0_i32_424 v454
  v455.toNat
def k0_dev25 (d0 : Dev nD) : Nat :=
  let c0_i32_435 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_429 : BitVec 32 := 4#32
  let v464 : BitVec 32 := Scalar.addi v2 c4_i32_429
  let c8_i32_430 : BitVec 32 := 8#32
  let v465 : BitVec 32 := Scalar.remsi v464 c8_i32_430
  let c1_i32_434 : BitVec 32 := 1#32
  let v466 : BitVec 32 := Scalar.muli v465 c1_i32_434
  let v467 : BitVec 32 := Scalar.addi c0_i32_435 v466
  v467.toNat
def k0_dev26 (d0 : Dev nD) : Nat :=
  let c0_i32_446 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_440 : BitVec 32 := 5#32
  let v476 : BitVec 32 := Scalar.addi v2 c5_i32_440
  let c8_i32_441 : BitVec 32 := 8#32
  let v477 : BitVec 32 := Scalar.remsi v476 c8_i32_441
  let c1_i32_445 : BitVec 32 := 1#32
  let v478 : BitVec 32 := Scalar.muli v477 c1_i32_445
  let v479 : BitVec 32 := Scalar.addi c0_i32_446 v478
  v479.toNat
def k0_dev27 (d0 : Dev nD) : Nat :=
  let c0_i32_457 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_451 : BitVec 32 := 6#32
  let v488 : BitVec 32 := Scalar.addi v2 c6_i32_451
  let c8_i32_452 : BitVec 32 := 8#32
  let v489 : BitVec 32 := Scalar.remsi v488 c8_i32_452
  let c1_i32_456 : BitVec 32 := 1#32
  let v490 : BitVec 32 := Scalar.muli v489 c1_i32_456
  let v491 : BitVec 32 := Scalar.addi c0_i32_457 v490
  v491.toNat
def k0_dev28 (d0 : Dev nD) : Nat :=
  let c0_i32_468 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_462 : BitVec 32 := 7#32
  let v500 : BitVec 32 := Scalar.addi v2 c7_i32_462
  let c8_i32_463 : BitVec 32 := 8#32
  let v501 : BitVec 32 := Scalar.remsi v500 c8_i32_463
  let c1_i32_467 : BitVec 32 := 1#32
  let v502 : BitVec 32 := Scalar.muli v501 c1_i32_467
  let v503 : BitVec 32 := Scalar.addi c0_i32_468 v502
  v503.toNat
def k0_dev29 (d0 : Dev nD) : Nat :=
  let c0_i32_567 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_562 : BitVec 32 := 1#32
  let v607 : BitVec 32 := Scalar.addi v2 c1_i32_562
  let c8_i32_563 : BitVec 32 := 8#32
  let v608 : BitVec 32 := Scalar.remsi v607 c8_i32_563
  let c1_i32_566 : BitVec 32 := 1#32
  let v609 : BitVec 32 := Scalar.muli v608 c1_i32_566
  let v610 : BitVec 32 := Scalar.addi c0_i32_567 v609
  v610.toNat
def k0_dev30 (d0 : Dev nD) : Nat :=
  let c0_i32_575 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_570 : BitVec 32 := 2#32
  let v617 : BitVec 32 := Scalar.addi v2 c2_i32_570
  let c8_i32_571 : BitVec 32 := 8#32
  let v618 : BitVec 32 := Scalar.remsi v617 c8_i32_571
  let c1_i32_574 : BitVec 32 := 1#32
  let v619 : BitVec 32 := Scalar.muli v618 c1_i32_574
  let v620 : BitVec 32 := Scalar.addi c0_i32_575 v619
  v620.toNat
def k0_dev31 (d0 : Dev nD) : Nat :=
  let c0_i32_583 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_578 : BitVec 32 := 3#32
  let v627 : BitVec 32 := Scalar.addi v2 c3_i32_578
  let c8_i32_579 : BitVec 32 := 8#32
  let v628 : BitVec 32 := Scalar.remsi v627 c8_i32_579
  let c1_i32_582 : BitVec 32 := 1#32
  let v629 : BitVec 32 := Scalar.muli v628 c1_i32_582
  let v630 : BitVec 32 := Scalar.addi c0_i32_583 v629
  v630.toNat
def k0_dev32 (d0 : Dev nD) : Nat :=
  let c0_i32_591 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_586 : BitVec 32 := 4#32
  let v637 : BitVec 32 := Scalar.addi v2 c4_i32_586
  let c8_i32_587 : BitVec 32 := 8#32
  let v638 : BitVec 32 := Scalar.remsi v637 c8_i32_587
  let c1_i32_590 : BitVec 32 := 1#32
  let v639 : BitVec 32 := Scalar.muli v638 c1_i32_590
  let v640 : BitVec 32 := Scalar.addi c0_i32_591 v639
  v640.toNat
def k0_dev33 (d0 : Dev nD) : Nat :=
  let c0_i32_599 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_594 : BitVec 32 := 5#32
  let v647 : BitVec 32 := Scalar.addi v2 c5_i32_594
  let c8_i32_595 : BitVec 32 := 8#32
  let v648 : BitVec 32 := Scalar.remsi v647 c8_i32_595
  let c1_i32_598 : BitVec 32 := 1#32
  let v649 : BitVec 32 := Scalar.muli v648 c1_i32_598
  let v650 : BitVec 32 := Scalar.addi c0_i32_599 v649
  v650.toNat
def k0_dev34 (d0 : Dev nD) : Nat :=
  let c0_i32_607 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_602 : BitVec 32 := 6#32
  let v657 : BitVec 32 := Scalar.addi v2 c6_i32_602
  let c8_i32_603 : BitVec 32 := 8#32
  let v658 : BitVec 32 := Scalar.remsi v657 c8_i32_603
  let c1_i32_606 : BitVec 32 := 1#32
  let v659 : BitVec 32 := Scalar.muli v658 c1_i32_606
  let v660 : BitVec 32 := Scalar.addi c0_i32_607 v659
  v660.toNat
def k0_dev35 (d0 : Dev nD) : Nat :=
  let c0_i32_615 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_610 : BitVec 32 := 7#32
  let v667 : BitVec 32 := Scalar.addi v2 c7_i32_610
  let c8_i32_611 : BitVec 32 := 8#32
  let v668 : BitVec 32 := Scalar.remsi v667 c8_i32_611
  let c1_i32_614 : BitVec 32 := 1#32
  let v669 : BitVec 32 := Scalar.muli v668 c1_i32_614
  let v670 : BitVec 32 := Scalar.addi c0_i32_615 v669
  v670.toNat
def k0_dev36 (d0 : Dev nD) : Nat :=
  let c0_i32_769 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_763 : BitVec 32 := 1#32
  let v810 : BitVec 32 := Scalar.addi v2 c1_i32_763
  let c8_i32_764 : BitVec 32 := 8#32
  let v811 : BitVec 32 := Scalar.remsi v810 c8_i32_764
  let c1_i32_768 : BitVec 32 := 1#32
  let v812 : BitVec 32 := Scalar.muli v811 c1_i32_768
  let v813 : BitVec 32 := Scalar.addi c0_i32_769 v812
  v813.toNat
def k0_dev37 (d0 : Dev nD) : Nat :=
  let c0_i32_780 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_774 : BitVec 32 := 2#32
  let v822 : BitVec 32 := Scalar.addi v2 c2_i32_774
  let c8_i32_775 : BitVec 32 := 8#32
  let v823 : BitVec 32 := Scalar.remsi v822 c8_i32_775
  let c1_i32_779 : BitVec 32 := 1#32
  let v824 : BitVec 32 := Scalar.muli v823 c1_i32_779
  let v825 : BitVec 32 := Scalar.addi c0_i32_780 v824
  v825.toNat
def k0_dev38 (d0 : Dev nD) : Nat :=
  let c0_i32_791 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_785 : BitVec 32 := 3#32
  let v834 : BitVec 32 := Scalar.addi v2 c3_i32_785
  let c8_i32_786 : BitVec 32 := 8#32
  let v835 : BitVec 32 := Scalar.remsi v834 c8_i32_786
  let c1_i32_790 : BitVec 32 := 1#32
  let v836 : BitVec 32 := Scalar.muli v835 c1_i32_790
  let v837 : BitVec 32 := Scalar.addi c0_i32_791 v836
  v837.toNat
def k0_dev39 (d0 : Dev nD) : Nat :=
  let c0_i32_802 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_796 : BitVec 32 := 4#32
  let v846 : BitVec 32 := Scalar.addi v2 c4_i32_796
  let c8_i32_797 : BitVec 32 := 8#32
  let v847 : BitVec 32 := Scalar.remsi v846 c8_i32_797
  let c1_i32_801 : BitVec 32 := 1#32
  let v848 : BitVec 32 := Scalar.muli v847 c1_i32_801
  let v849 : BitVec 32 := Scalar.addi c0_i32_802 v848
  v849.toNat
def k0_dev40 (d0 : Dev nD) : Nat :=
  let c0_i32_813 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_807 : BitVec 32 := 5#32
  let v858 : BitVec 32 := Scalar.addi v2 c5_i32_807
  let c8_i32_808 : BitVec 32 := 8#32
  let v859 : BitVec 32 := Scalar.remsi v858 c8_i32_808
  let c1_i32_812 : BitVec 32 := 1#32
  let v860 : BitVec 32 := Scalar.muli v859 c1_i32_812
  let v861 : BitVec 32 := Scalar.addi c0_i32_813 v860
  v861.toNat
def k0_dev41 (d0 : Dev nD) : Nat :=
  let c0_i32_824 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_818 : BitVec 32 := 6#32
  let v870 : BitVec 32 := Scalar.addi v2 c6_i32_818
  let c8_i32_819 : BitVec 32 := 8#32
  let v871 : BitVec 32 := Scalar.remsi v870 c8_i32_819
  let c1_i32_823 : BitVec 32 := 1#32
  let v872 : BitVec 32 := Scalar.muli v871 c1_i32_823
  let v873 : BitVec 32 := Scalar.addi c0_i32_824 v872
  v873.toNat
def k0_dev42 (d0 : Dev nD) : Nat :=
  let c0_i32_835 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_829 : BitVec 32 := 7#32
  let v882 : BitVec 32 := Scalar.addi v2 c7_i32_829
  let c8_i32_830 : BitVec 32 := 8#32
  let v883 : BitVec 32 := Scalar.remsi v882 c8_i32_830
  let c1_i32_834 : BitVec 32 := 1#32
  let v884 : BitVec 32 := Scalar.muli v883 c1_i32_834
  let v885 : BitVec 32 := Scalar.addi c0_i32_835 v884
  v885.toNat
def k0_dev43 (d0 : Dev nD) : Nat :=
  let c0_i32_934 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_929 : BitVec 32 := 1#32
  let v989 : BitVec 32 := Scalar.addi v2 c1_i32_929
  let c8_i32_930 : BitVec 32 := 8#32
  let v990 : BitVec 32 := Scalar.remsi v989 c8_i32_930
  let c1_i32_933 : BitVec 32 := 1#32
  let v991 : BitVec 32 := Scalar.muli v990 c1_i32_933
  let v992 : BitVec 32 := Scalar.addi c0_i32_934 v991
  v992.toNat
def k0_dev44 (d0 : Dev nD) : Nat :=
  let c0_i32_942 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_937 : BitVec 32 := 2#32
  let v999 : BitVec 32 := Scalar.addi v2 c2_i32_937
  let c8_i32_938 : BitVec 32 := 8#32
  let v1000 : BitVec 32 := Scalar.remsi v999 c8_i32_938
  let c1_i32_941 : BitVec 32 := 1#32
  let v1001 : BitVec 32 := Scalar.muli v1000 c1_i32_941
  let v1002 : BitVec 32 := Scalar.addi c0_i32_942 v1001
  v1002.toNat
def k0_dev45 (d0 : Dev nD) : Nat :=
  let c0_i32_950 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_945 : BitVec 32 := 3#32
  let v1009 : BitVec 32 := Scalar.addi v2 c3_i32_945
  let c8_i32_946 : BitVec 32 := 8#32
  let v1010 : BitVec 32 := Scalar.remsi v1009 c8_i32_946
  let c1_i32_949 : BitVec 32 := 1#32
  let v1011 : BitVec 32 := Scalar.muli v1010 c1_i32_949
  let v1012 : BitVec 32 := Scalar.addi c0_i32_950 v1011
  v1012.toNat
def k0_dev46 (d0 : Dev nD) : Nat :=
  let c0_i32_958 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_953 : BitVec 32 := 4#32
  let v1019 : BitVec 32 := Scalar.addi v2 c4_i32_953
  let c8_i32_954 : BitVec 32 := 8#32
  let v1020 : BitVec 32 := Scalar.remsi v1019 c8_i32_954
  let c1_i32_957 : BitVec 32 := 1#32
  let v1021 : BitVec 32 := Scalar.muli v1020 c1_i32_957
  let v1022 : BitVec 32 := Scalar.addi c0_i32_958 v1021
  v1022.toNat
def k0_dev47 (d0 : Dev nD) : Nat :=
  let c0_i32_966 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_961 : BitVec 32 := 5#32
  let v1029 : BitVec 32 := Scalar.addi v2 c5_i32_961
  let c8_i32_962 : BitVec 32 := 8#32
  let v1030 : BitVec 32 := Scalar.remsi v1029 c8_i32_962
  let c1_i32_965 : BitVec 32 := 1#32
  let v1031 : BitVec 32 := Scalar.muli v1030 c1_i32_965
  let v1032 : BitVec 32 := Scalar.addi c0_i32_966 v1031
  v1032.toNat
def k0_dev48 (d0 : Dev nD) : Nat :=
  let c0_i32_974 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_969 : BitVec 32 := 6#32
  let v1039 : BitVec 32 := Scalar.addi v2 c6_i32_969
  let c8_i32_970 : BitVec 32 := 8#32
  let v1040 : BitVec 32 := Scalar.remsi v1039 c8_i32_970
  let c1_i32_973 : BitVec 32 := 1#32
  let v1041 : BitVec 32 := Scalar.muli v1040 c1_i32_973
  let v1042 : BitVec 32 := Scalar.addi c0_i32_974 v1041
  v1042.toNat
def k0_dev49 (d0 : Dev nD) : Nat :=
  let c0_i32_982 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_977 : BitVec 32 := 7#32
  let v1049 : BitVec 32 := Scalar.addi v2 c7_i32_977
  let c8_i32_978 : BitVec 32 := 8#32
  let v1050 : BitVec 32 := Scalar.remsi v1049 c8_i32_978
  let c1_i32_981 : BitVec 32 := 1#32
  let v1051 : BitVec 32 := Scalar.muli v1050 c1_i32_981
  let v1052 : BitVec 32 := Scalar.addi c0_i32_982 v1051
  v1052.toNat
abbrev stage0_0 : Fin 1 → Memref sig .tc .vmem S64x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S64x4096 : Shape := ⟨2, ![64, 4096]⟩
abbrev S4096x1024 : Shape := ⟨2, ![4096, 1024]⟩
abbrev S1024x4096 : Shape := ⟨2, ![1024, 4096]⟩
abbrev S64x1024 : Shape := ⟨2, ![64, 1024]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S64x4096, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S1024x4096, .f32⟩
  | .hbm, ⟨5, _⟩ => ⟨S1024x4096, .f32⟩
  | .hbm, ⟨6, _⟩ => ⟨S1024x4096, .f32⟩
  | .hbm, ⟨7, _⟩ => ⟨S64x1024, .f32⟩
  | .hbm, ⟨8, _⟩ => ⟨S_, .f32⟩
  | .hbm, ⟨9, _⟩ => ⟨S64x1024, .f32⟩
  | .hbm, ⟨10, _⟩ => ⟨S64x1024, .f32⟩
  | .hbm, ⟨11, _⟩ => ⟨S64x4096, .f32⟩
  | .hbm, ⟨12, _⟩ => ⟨S64x1024, .f32⟩
  | .hbm, ⟨13, _⟩ => ⟨S_, .f32⟩
  | .hbm, ⟨14, _⟩ => ⟨S64x1024, .f32⟩
  | .hbm, ⟨15, _⟩ => ⟨S64x1024, .f32⟩
  | .hbm, ⟨16, _⟩ => ⟨S64x4096, .f32⟩
  | .hbm, ⟨17, _⟩ => ⟨S64x1024, .f32⟩
  | .hbm, ⟨18, _⟩ => ⟨S_, .f32⟩
  | .hbm, ⟨19, _⟩ => ⟨S64x1024, .f32⟩
  | .hbm, ⟨20, _⟩ => ⟨S64x1024, .f32⟩
  | .hbm, ⟨21, _⟩ => ⟨S64x4096, .f32⟩
  | _, _ => ⟨S64x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Proof.Prog.lean ====
/-
The kernel's body as one program of a few named steps.

The kernel runs three layers. In each, a device multiplies its activations by its block of the first weight, sends the
eight slots of that product to the eight devices (its own slot stays), sums what it received, sends the rectified sum
to everyone, assembles the hidden activations and multiplies by its block of the second weight. The program below says
that once, for a symbolic layer and with each group of seven transfers or waits a fold over `Fin 7`; `body_eq` is the
theorem that the printed body is this program.
-/
module

public import proofs.«01_k».proof.Proof.Gen.KernelIdeal.Skeleton
public import proofs.«01_k».proof.Proof.Gen.KernelIdeal.Launch

@[expose] public section

noncomputable section

namespace Cert.Mlp

open Cert.KernelIdeal Cert.KernelIdeal.Gen
open Idealize.ShloMosaic Idealize.ShloMosaic.TcCoe
open Idealize.SL.Sem

variable {F : FTy → Type} [FloatOps F]

/-! ## Addresses -/

/-- The place of one slot (one index of the leading axis) in a buffer of eight slots, with what the transfers need of it. -/
structure Addr where
  off : Fin 3 → Nat
  inb : ∀ a, off a + S1x64x128.size a ≤ S8x64x128.size a
  words : (Rect.unit (s := S8x64x128) off S1x64x128.size inb).WholeWords (EltTy.packing .bf16)

/-- Two addresses at equal offsets are equal. -/
theorem Addr.ext_off {a b : Addr} (h : a.off = b.off) : a = b := by
  cases a; cases b; cases h; rfl

/-- The slot of a buffer of eight slots at an address. -/
def slot8 (m : Memref sig .tc .vmem S8x64x128 .bf16) (a : Addr) : Memref sig .tc .vmem S64x128 .bf16 :=
  (m.slice (Rect.unit (s := S8x64x128) a.off S1x64x128.size a.inb) (fun _ => rfl)).squeeze S64x128 squeezes_S1x64x128_S64x128

/-- Slot `k` of seven lies inside its buffer. -/
theorem inb7 : ∀ k : Fin 7, ∀ a, (![k.val, 0, 0] : Fin 3 → Nat) a + S1x64x128.size a ≤ S7x64x128.size a := by decide +kernel
/-- Slot `k` of seven is made of whole words. -/
theorem words7 : ∀ k : Fin 7, (Rect.unit (s := S7x64x128) ![k.val, 0, 0] S1x64x128.size (inb7 k)).WholeWords (EltTy.packing .bf16) := by decide +kernel
/-- Semaphore `k` lies inside its array. -/
theorem inbSem : ∀ k : Fin 7, ∀ a, (![k.val] : Fin 1 → Nat) a + S1.size a ≤ S7.size a := by decide +kernel

/-- The rectangle of slot `k` in the receive buffer. -/
abbrev rect7 (k : Fin 7) : Rect S7x64x128 := Rect.unit (s := S7x64x128) ![k.val, 0, 0] S1x64x128.size (inb7 k)

/-- The partial products' buffer, the receive buffer, the hidden activations' buffer, the reduced slot. -/
abbrev mA : Memref sig .tc .vmem S8x64x128 .bf16 := Memref.whole cc0_scratch0
abbrev mR : Memref sig .tc .vmem S7x64x128 .bf16 := Memref.whole cc0_scratch1
abbrev mH : Memref sig .tc .vmem S8x64x128 .bf16 := Memref.whole cc0_scratch2
abbrev mD : Memref sig .tc .vmem S64x128 .bf16 := Memref.whole cc0_scratch3

/-- Slot `k` of the receive buffer. -/
def rSlot (k : Fin 7) : Memref sig .tc .vmem S64x128 .bf16 :=
  (mR.slice (rect7 k) (fun _ => rfl)).squeeze S64x128 squeezes_S1x64x128_S64x128

/-- The `k`th semaphore of an array of seven. -/
def semAt (a : DmaSems sig S7) (k : Fin 7) : DmaSem sig :=
  ((a.slice (Rect.unit (s := S7) ![k.val] S1.size (inbSem k))).squeeze S_ squeezes_S1_S_).sem

/-- The send and receive semaphores of the first exchange, and of the second. -/
abbrev sendA (k : Fin 7) : DmaSem sig := semAt cc0_scratch4 k
abbrev recvA (k : Fin 7) : DmaSem sig := semAt cc0_scratch5 k
abbrev sendB (k : Fin 7) : DmaSem sig := semAt cc0_scratch6 k
abbrev recvB (k : Fin 7) : DmaSem sig := semAt cc0_scratch7 k

/-- The runtime's barrier semaphore. -/
abbrev barS : Sem sig := (SemArray.scalar (sig.barrier 0 rfl) : Sems sig S_).sem

/-- The device the `k`th signal or transfer of a group addresses, as the kernel computes it. -/
def devW (d0 : Dev nD) (b : BitVec 32) : Nat :=
  let v0 : BitVec 32 := Dev.word d0
  let v1 : BitVec 32 := Scalar.divsi v0 1#32
  let v2 : BitVec 32 := Scalar.remsi v1 8#32
  let v46 : BitVec 32 := Scalar.addi v2 b
  let v47 : BitVec 32 := Scalar.remsi v46 8#32
  let v48 : BitVec 32 := Scalar.muli v47 1#32
  (Scalar.addi 0#32 v48).toNat

/-- The target that the program computes for offset `k + 1` is `(d0 + k + 1) mod 8`. -/
theorem devW_eq : ∀ d0 : Dev nD, ∀ k : Fin 7, devW d0 (BitVec.ofNat 32 (1 + k.val)) = (d0.val + k.val + 1) % 8 := by decide +kernel
/-- That target is one of the devices. -/
theorem devW_lt (d0 : Dev nD) (k : Fin 7) : devW d0 (BitVec.ofNat 32 (1 + k.val)) < nD := by
  rw [devW_eq]; exact Nat.mod_lt _ (by decide)

/-- What the program takes of the device it runs on: whom the `k`th message of a group goes to, the slot of the
    products that goes to it, and the slot of the hidden activations that is this device's. -/
structure Place where
  dv : Fin 7 → Dev nD
  pa : Fin 7 → Addr
  ha : Addr
  mask : IVec S8x1x1 1

/-- The kernel's own computation of it. -/
def printed (c : Dev nD) : Place where
  dv k := ⟨devW c (BitVec.ofNat 32 (1 + k.val)), devW_lt c k⟩
  pa k := ⟨k0_off1 c (BitVec.ofNat 32 (1 + k.val)), k0_off1_inb c k, k0_off1_wordsbf16 c k⟩
  ha := ⟨k0_off2 c, k0_off2_inb c, k0_off2_wordsbf16 c⟩
  mask := k0_pay1 c

/-- The device `k + 1` places after `c`, to which `c`'s `k`th message goes; and `k + 1` places before, from which the
    `k`th message comes. -/
def tgt (c : Dev nD) (k : Fin 7) : Dev nD := ⟨(c.val + k.val + 1) % 8, Nat.mod_lt _ (by decide)⟩
def src (c : Dev nD) (k : Fin 7) : Dev nD := ⟨(c.val + 7 - k.val) % 8, Nat.mod_lt _ (by decide)⟩

/-- Slot `t` of eight lies inside its buffer. -/
theorem inb8 : ∀ t : Fin 8, ∀ a, (![t.val, 0, 0] : Fin 3 → Nat) a + S1x64x128.size a ≤ S8x64x128.size a := by decide +kernel
/-- Slot `t` of eight is made of whole words. -/
theorem words8 : ∀ t : Fin 8, (Rect.unit (s := S8x64x128) ![t.val, 0, 0] S1x64x128.size (inb8 t)).WholeWords (EltTy.packing .bf16) := by decide +kernel

/-- The address of slot `t`. -/
def slotAddr (t : Fin 8) : Addr := ⟨![t.val, 0, 0], inb8 t, words8 t⟩

/-- The place in closed form: the `k`th message goes to `tgt c k`, takes slot `tgt c k` of the products, and the
    device's own slot is slot `c`. -/
def placeAt (c : Dev nD) : Place where
  dv := tgt c
  pa k := slotAddr (tgt c k)
  ha := slotAddr c
  mask := k0_pay1 c

/-- What the kernel computes is that. -/
theorem printed_eq (c : Dev nD) : printed c = placeAt c := by
  unfold printed placeAt
  congr 1
  · exact funext fun k => Fin.ext (devW_eq c k)
  · exact funext fun k => Addr.ext_off (k0_off1_eq c k)
  · exact Addr.ext_off (k0_off2_eq c)

/-! ## The arithmetic of a layer -/

/-- The device's partial product, slot by slot, as kept and as sent. -/
abbrev prt (x : FVec F S64x512 .f32) (w : FVec F S512x1024 .f32) : FVec F S8x64x128 .f32 := k0_pay10 x w
abbrev prtB (x : FVec F S64x512 .f32) (w : FVec F S512x1024 .f32) : FVec F S8x64x128 .bf16 := k0_pay11 x w
/-- The sum's first term, the device's own slot of its own product. -/
abbrev accOwn (msk : IVec S8x1x1 1) (p : FVec F S8x64x128 .f32) : FVec F S64x128 .f32 := k0_pay12 msk p
/-- One more received slot added. -/
def accAdd (a : FVec F S64x128 .f32) (v : FVec F S1x64x128 .bf16) : FVec F S64x128 .f32 :=
  addf a (extf .f32 (shapeCast S64x128 v shapeCasts_S1x64x128_S64x128 : FVec F S64x128 .bf16) bitsLt_bf16_f32)
/-- The sum rectified and rounded, and as stored for the second exchange. -/
def rect (a : FVec F S64x128 .f32) : FVec F S64x128 .bf16 :=
  truncf .bf16 (maximumf a (broadcast S64x128 (Scalar.ofBits .f32 0x00000000#32 : F .f32))) bitsLt_bf16_f32
def rectS (a : FVec F S64x128 .f32) : FVec F S64x128 .bf16 :=
  shapeCast S64x128 (rect a) shapeCasts_S64x128_S64x128
/-- The next activations: the hidden ones, the device's own slot from the register, times the second weight. -/
abbrev nxt (msk : IVec S8x1x1 1) (r : FVec F S64x128 .bf16) (h : FVec F S8x64x128 .bf16) (w : FVec F S1024x512 .f32) : FVec F S64x512 .f32 :=
  k0_pay17 msk r h w

/-! ## The program -/

abbrev Pg : Type 1 := Prog (TpuEff nD τ sig (Elt F) Λ₀ .tc) PUnit

/-- The steps `f k` for `k` in the list, in order, then `κ`. -/
def seqK (f : Fin 7 → Pg (F := F) → Pg (F := F)) : List (Fin 7) → Pg (F := F) → Pg (F := F)
  | [], κ => κ
  | k :: ks, κ => f k (seqK f ks κ)

/-- The same with a value carried from step to step. -/
def accK {A : Type} (f : Fin 7 → A → (A → Pg (F := F)) → Pg (F := F)) : List (Fin 7) → A → (A → Pg (F := F)) → Pg (F := F)
  | [], a, κ => κ a
  | k :: ks, a, κ => f k a fun a' => accK f ks a' κ

/-- `0, …, 6`. -/
abbrev seven : List (Fin 7) := [0, 1, 2, 3, 4, 5, 6]

/-- The staging buffers of the first weight and of the second weight at layer `l`. -/
abbrev mI : ℕ → Memref sig .tc .vmem S512x1024 .f32
  | 0 => Memref.whole cc0_stg1_0 | 1 => Memref.whole cc0_stg3_0 | _ => Memref.whole cc0_stg5_0
abbrev mO : ℕ → Memref sig .tc .vmem S1024x512 .f32
  | 0 => Memref.whole cc0_stg2_0 | 1 => Memref.whole cc0_stg4_0 | _ => Memref.whole cc0_stg6_0

abbrev r8 : Rect S8x64x128 := Rect.unit (s := S8x64x128) ![0, 0, 0] S8x64x128.size inb_S8x64x128_S8x64x128_0_0_0
abbrev r2 : Rect S64x128 := Rect.unit (s := S64x128) ![0, 0] S64x128.size inb_S64x128_S64x128_0_0
abbrev rX : Rect S64x512 := Rect.unit (s := S64x512) ![0, 0] S64x512.size inb_S64x512_S64x512_0_0
abbrev rI : Rect S512x1024 := Rect.unit (s := S512x1024) ![0, 0] S512x1024.size inb_S512x1024_S512x1024_0_0
abbrev rO : Rect S1024x512 := Rect.unit (s := S1024x512) ![0, 0] S1024x512.size inb_S1024x512_S1024x512_0_0

section Steps
variable (p : Place)

/-- One barrier signal. -/
def stSig (k : Fin 7) (κ : Pg (F := F)) : Pg (F := F) :=
  .op (.semSignal (p.dv k, .tc) barS (1#32 : BitVec 32).toInt) fun _ => κ
/-- The wait for the seven others' signals. -/
def stBar (κ : Pg (F := F)) : Pg (F := F) := .op (.semWait barS (7#32 : BitVec 32).toInt) fun _ => κ

/-- A layer's product: read the weight, store the rounded product. -/
def stProd (l : ℕ) (x : FVec F S64x512 .f32) (κ : FVec F S512x1024 .f32 → Pg (F := F)) : Pg (F := F) :=
  .op (.load (mI l) rI.toLoadRect (View.loadsAt_vmem h_S512x1024)) fun (w : Vec F S512x1024 .f32) =>
  .op (.load mA r8.toLoadRect (View.loadsAt_vmem h_S8x64x128)) fun _ =>
  .op (.store mA r8 (prtB x w) Finset.univ
    (View.stores_vmem h_S8x64x128 ((Memref.isWhole_whole _ : mA.IsWhole).storeExact_slice rfl _ packedbf16_S8x64x128_S8x64x128_0_0_0) (fun _ => rfl)) (.inl rfl)) fun _ =>
  κ w

/-- One slot of the product sent. -/
def stSendA (k : Fin 7) (κ : Pg (F := F)) : Pg (F := F) :=
  .op (.enqueueDma (slot8 mA (p.pa k)) (.remote (Dev.tc (p.dv k)) (rSlot k) (.dma (sendA k))) (.dma (recvA k))
    (((Memref.isWhole_whole _ : mA.IsWhole).wordExact_slice rfl _ (p.pa k).words).reshape _ _)
    (((Memref.isWhole_whole _ : mR.IsWhole).wordExact_slice rfl _ (words7 k)).reshape _ _) ⟨⟨rfl, Or.inl rfl⟩, trivial⟩) fun _ => κ

/-- One slot received and added. -/
def stRecvA (k : Fin 7) (a : FVec F S64x128 .f32) (κ : FVec F S64x128 .f32 → Pg (F := F)) : Pg (F := F) :=
  .op (.waitDma2 (recvA k) (slot8 mA (p.pa k)) (rSlot k)
    (((Memref.isWhole_whole _ : mA.IsWhole).wordExact_slice rfl _ (p.pa k).words).reshape _ _)
    (((Memref.isWhole_whole _ : mR.IsWhole).wordExact_slice rfl _ (words7 k)).reshape _ _)) fun _ =>
  .op (.load mR (rect7 k).toLoadRect (View.loadsAt_vmem h_S1x64x128)) fun (v : Vec F S1x64x128 .bf16) => κ (accAdd a v)

/-- The rectified sum stored for the second exchange. -/
def stRed (a : FVec F S64x128 .f32) (κ : Pg (F := F)) : Pg (F := F) :=
  .op (.load mD r2.toLoadRect (View.loadsAt_vmem h_S64x128)) fun _ =>
  .op (.store mD r2 (rectS a) Finset.univ
    (View.stores_vmem h_S64x128 ((Memref.isWhole_whole _ : mD.IsWhole).storeExact_slice rfl _ packedbf16_S64x128_S64x128_0_0) (fun _ => rfl)) (.inl rfl)) fun _ =>
  κ

/-- The rectified sum sent to one device. -/
def stSendB (k : Fin 7) (κ : Pg (F := F)) : Pg (F := F) :=
  .op (.enqueueDma mD (.remote (Dev.tc (p.dv k)) (slot8 mH p.ha) (.dma (sendB k))) (.dma (recvB k))
    (Memref.isWhole_whole _ : mD.IsWhole).wordExact
    (((Memref.isWhole_whole _ : mH.IsWhole).wordExact_slice rfl _ p.ha.words).reshape _ _) ⟨⟨rfl, Or.inl rfl⟩, trivial⟩) fun _ => κ

/-- One slot of the hidden activations received. -/
def stRecvB (k : Fin 7) (κ : Pg (F := F)) : Pg (F := F) :=
  .op (.waitDma2 (recvB k) mD (slot8 mH p.ha)
    (Memref.isWhole_whole _ : mD.IsWhole).wordExact
    (((Memref.isWhole_whole _ : mH.IsWhole).wordExact_slice rfl _ p.ha.words).reshape _ _)) fun _ => κ

/-- One of the first exchange's sends complete. -/
def stDoneA (k : Fin 7) (κ : Pg (F := F)) : Pg (F := F) :=
  .op (.waitDma2 (sendA k) (rSlot k) (slot8 mA (p.pa k))
    (((Memref.isWhole_whole _ : mR.IsWhole).wordExact_slice rfl _ (words7 k)).reshape _ _)
    (((Memref.isWhole_whole _ : mA.IsWhole).wordExact_slice rfl _ (p.pa k).words).reshape _ _)) fun _ => κ

/-- One of the second exchange's sends complete. -/
def stDoneB (k : Fin 7) (κ : Pg (F := F)) : Pg (F := F) :=
  .op (.waitDma2 (sendB k) (slot8 mH p.ha) mD
    (((Memref.isWhole_whole _ : mH.IsWhole).wordExact_slice rfl _ p.ha.words).reshape _ _)
    (Memref.isWhole_whole _ : mD.IsWhole).wordExact) fun _ => κ

/-- A layer after its product is stored (and, at layer 0, the barrier passed). -/
def stLayer (l : ℕ) (x : FVec F S64x512 .f32) (w : FVec F S512x1024 .f32) (κ : FVec F S64x512 .f32 → Pg (F := F)) : Pg (F := F) :=
  seqK (stSendA p) seven <|
  accK (stRecvA p) seven (accOwn p.mask (prt x w)) fun a =>
  stRed a <|
  seqK (stSendB p) seven <|
  seqK (stRecvB p) seven <|
  .op (.load mH r8.toLoadRect (View.loadsAt_vmem h_S8x64x128)) fun (h : Vec F S8x64x128 .bf16) =>
  .op (.load (mO l) rO.toLoadRect (View.loadsAt_vmem h_S1024x512)) fun (wo : Vec F S1024x512 .f32) =>
  seqK (stDoneA p) seven <|
  seqK (stDoneB p) seven <|
  κ (nxt p.mask (rect a) h wo)

abbrev mX : Memref sig .tc .vmem S64x512 .f32 := Memref.whole cc0_stg0_0
abbrev mY : Memref sig .tc .vmem S64x512 .f32 := Memref.whole cc0_stg7_0

/-- The result stored. -/
def stOut (x : FVec F S64x512 .f32) : Pg (F := F) :=
  .op (.load mY rX.toLoadRect (View.loadsAt_vmem h_S64x512)) fun _ =>
  .op (.store mY rX x Finset.univ (View.stores_vmem_bits_univ h_S64x512 rfl) (.inl rfl)) fun _ => .ret ⟨⟩

/-- The whole body on a device. -/
def prog : Pg (F := F) :=
  seqK (stSig p) seven <|
  .op (.load mX rX.toLoadRect (View.loadsAt_vmem h_S64x512)) fun (x0 : Vec F S64x512 .f32) =>
  let x : FVec F S64x512 .f32 := shapeCast S64x512 x0 shapeCasts_S64x512_S64x512
  stProd 0 x fun w0 => stBar <| stLayer p 0 x w0 fun x1 =>
  stProd 1 x1 fun w1 => stLayer p 1 x1 w1 fun x2 =>
  stProd 2 x2 fun w2 => stLayer p 2 x2 w2 fun x3 =>
  stOut x3

end Steps

/-- The printed body at the staged windows. -/
abbrev body : Pg (F := F) :=
  cc0_body (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_stg4_0) (Memref.isWhole_whole _) (Memref.whole cc0_stg5_0) (Memref.isWhole_whole _)
    (Memref.whole cc0_stg6_0) (Memref.isWhole_whole _) (Memref.whole cc0_stg7_0) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    cc0_scratch4 cc0_scratch5 cc0_scratch6 cc0_scratch7 cc0_scratch8

set_option maxRecDepth 100000 in
set_option maxHeartbeats 4000000 in
/-- The printed body reads its device and runs the program at that device. -/
theorem body_eq : body (F := F) = .op .deviceId fun c => prog (printed c) := by
  rfl

/-- The same with the places in closed form. -/
theorem body_eq' : body (F := F) = .op .deviceId fun c => prog (placeAt c) := by
  rw [body_eq]; exact congrArg _ (funext fun c => by rw [printed_eq])

end Cert.Mlp

end
-- ==== Proof.Proto.lean ====
/-
The protocol of the eight devices: the maps between them, what each layer's buffers hold, the semaphore cells, the
schedule of their rounds (who pays which cell in which round, and what is handed over with the payment), what each
device owes, and the levels that order the waits.

A round of a cell is a layer. Device `c`'s `k`th message goes to device `tgt c k` and lands at its `k`th receive cell;
the `k`th message `c` receives is from `src c k`. A device may write into a peer's buffer only after the peer has said
so: the barrier signal hands over the sender's receive slot for layer 0, the first exchange's message hands over the
sender's slot of hidden activations, and the second exchange's message hands over the receive slot for the next layer.
-/
module

public import proofs.«01_k».proof.Proof.Prog
public import Idealize.ShloMosaic.Lib.Pipeline.Launch
public import Idealize.ShloMosaic.Lib.Pipeline.Kit
public import Idealize.ShloMosaic.Lib.Tactic
public import Idealize.ShloMosaic.Lib.Ring
public import Idealize.ShloMosaic.Lib.ValueLayout

@[expose] public section

noncomputable section

namespace Cert.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)

variable {F : FTy → Type} [FloatOps F]

/-! ## Who sends to whom -/

/-- The message index under which a reply goes back. -/
abbrev rev (k : Fin 7) : Fin 7 := Fin.rev k

/-- The `k`th source of one's `k`th target is oneself. -/
theorem src_tgt : ∀ (c : Dev nD) (k : Fin 7), src (tgt c k) k = c := by decide +kernel
/-- The `k`th target of one's `k`th source is oneself. -/
theorem tgt_src : ∀ (c : Dev nD) (k : Fin 7), tgt (src c k) k = c := by decide +kernel
/-- The target under the reversed index is the source. -/
theorem tgt_rev : ∀ (c : Dev nD) (k : Fin 7), tgt c (rev k) = src c k := by decide +kernel
/-- The source under the reversed index is the target. -/
theorem src_rev : ∀ (c : Dev nD) (k : Fin 7), src c (rev k) = tgt c k := by decide +kernel
/-- Nobody is its own target. -/
theorem tgt_ne : ∀ (c : Dev nD) (k : Fin 7), tgt c k ≠ c := by decide +kernel
/-- The seven targets differ. -/
theorem tgt_inj : ∀ (c : Dev nD) (k k' : Fin 7), tgt c k = tgt c k' → k = k' := by decide +kernel
/-- The devices are oneself and one's seven targets. -/
theorem around : ∀ c : Dev nD, (Finset.univ : Finset (Dev nD)) = insert c (Finset.univ.image (tgt c)) := by decide +kernel

/-- The mesh as a step: everybody's `k`th target, a permutation of the devices. -/
def tgtEquiv (k : Fin 7) : Dev nD ≃ Dev nD := ⟨fun c => tgt c k, fun c => src c k, fun c => src_tgt c k, fun c => tgt_src c k⟩

/-! ## The resource algebra -/

abbrev UB : Type := URounds (GSem nD τ sig) (Fin 7)
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

/-! ## Splitting a separating conjunction over the devices around one of them -/

/-- A conjunction over the devices is oneself's part and those of one's seven targets. -/
theorem bigSep_around (c : Dev nD) (Φ : Dev nD → sProp 𝕄) :
    bigSep Finset.univ Φ = iprop(Φ c ∗ bigSep Finset.univ fun k : Fin 7 => Φ (tgt c k)) := by
  have h : (Finset.univ.image (tgt c)) = Finset.univ.map ⟨tgt c, fun k k' => tgt_inj c k k'⟩ := by
    rw [Finset.map_eq_image]; rfl
  rw [around c, h, bigSep_insert (by rw [← h]; intro hm; obtain ⟨k, -, hk⟩ := Finset.mem_image.mp hm; exact tgt_ne c k hk), bigSep_map]
  rfl

/-- A conjunction over the messages may be counted backwards. -/
theorem bigSep_revK (Φ : Fin 7 → sProp 𝕄) : bigSep Finset.univ (fun k => Φ (rev k)) = bigSep Finset.univ Φ :=
  (bigSep_univ_equiv Fin.revPerm Φ).symm

/-! ## What the buffers hold, layer by layer -/

variable (F) in
/-- What the devices read: their blocks of the activations and of the two weights of each layer. -/
structure Inp where
  x : Dev nD → Vec F S64x512 .f32
  wi : ℕ → Dev nD → Vec F S512x1024 .f32
  wo : ℕ → Dev nD → Vec F S1024x512 .f32

/-- The receive buffer of device `t` when everybody's products are `pb`: slot `k` holds slot `t` of `src t k`'s. -/
def recvOf (pb : Dev nD → Vec F S8x64x128 .bf16) (t : Dev nD) : Vec F S7x64x128 .bf16 :=
  fun i => pb (src t (i 0)) (ix3 t (i 1) (i 2))

/-- Slot `k` of it as loaded. -/
def recvAt (pb : Dev nD → Vec F S8x64x128 .bf16) (t : Dev nD) (k : Fin 7) : Vec F S1x64x128 .bf16 :=
  mR.view.readAt (Elt F) (rect7 k).toLoadRect (recvOf pb t)

/-- A sum over received slots. -/
def accFold (v : Fin 7 → Vec F S1x64x128 .bf16) (ks : List (Fin 7)) (a : FVec F S64x128 .f32) : FVec F S64x128 .f32 :=
  ks.foldl (fun a k => accAdd a (v k)) a

/-- The reduced slot of device `c`: its own product's slot and the seven received. -/
def accOf (x : Dev nD → FVec F S64x512 .f32) (wi : Dev nD → Vec F S512x1024 .f32) (c : Dev nD) : FVec F S64x128 .f32 :=
  accFold (recvAt (fun s => prtB (x s) (wi s)) c) seven (accOwn (k0_pay1 c) (prt (x c) (wi c)))

/-- The hidden activations: slot `s` is device `s`'s reduced slot rectified. -/
def hidOf (a : Dev nD → FVec F S64x128 .f32) : Vec F S8x64x128 .bf16 := fun i => rectS (a (i 0)) (ix2 (i 1) (i 2))

/-- The next activations. -/
def nextOf (x : Dev nD → FVec F S64x512 .f32) (wi : Dev nD → Vec F S512x1024 .f32) (wo : Dev nD → Vec F S1024x512 .f32) (c : Dev nD) : FVec F S64x512 .f32 :=
  nxt (k0_pay1 c) (rect (accOf x wi c)) (mH.view.readAt (Elt F) r8.toLoadRect (hidOf (accOf x wi))) (wo c)

section Contents
variable (I : Inp F)

/-- The activations device `c` enters layer `l` with. -/
def acts : ℕ → Dev nD → FVec F S64x512 .f32
  | 0 => fun c => shapeCast S64x512 (I.x c) shapeCasts_S64x512_S64x512
  | l + 1 => nextOf (acts l) (I.wi l) (I.wo l)

/-- The rounded product, the receive buffer, the sum, the hidden activations and the reduced slot of layer `l`. -/
def PB (l : ℕ) (c : Dev nD) : Vec F S8x64x128 .bf16 := prtB (acts I l c) (I.wi l c)
def RA (l : ℕ) (c : Dev nD) : Vec F S7x64x128 .bf16 := recvOf (PB I l) c
def AC (l : ℕ) (c : Dev nD) : FVec F S64x128 .f32 := accOf (acts I l) (I.wi l) c
def HB (l : ℕ) : Vec F S8x64x128 .bf16 := hidOf (AC I l)
def RS (l : ℕ) (c : Dev nD) : Vec F S64x128 .bf16 := rectS (AC I l c)

end Contents

/-! ## The buffers and their slots -/

abbrev ℓA (d : Dev nD) : Loc nD τ sig := (d : Thread nD τ).loc cc0_scratch0
abbrev ℓR (d : Dev nD) : Loc nD τ sig := (d : Thread nD τ).loc cc0_scratch1
abbrev ℓH (d : Dev nD) : Loc nD τ sig := (d : Thread nD τ).loc cc0_scratch2
abbrev ℓD (d : Dev nD) : Loc nD τ sig := (d : Thread nD τ).loc cc0_scratch3

/-- Slot `t` of device `d`'s products, slot `k` of its receive buffer, slot `t` of its hidden activations, and a share
    of its reduced slot. -/
abbrev aSlot (t : Fin 8) : Memref sig .tc .vmem S64x128 .bf16 := slot8 mA (slotAddr t)
abbrev hSlot (t : Fin 8) : Memref sig .tc .vmem S64x128 .bf16 := slot8 mH (slotAddr t)

/-- The elements of those slots. -/
def setA (t : Fin 8) : Finset S8x64x128.Idx := (aSlot t).view.set
def setR (k : Fin 7) : Finset S7x64x128.Idx := (rSlot k).view.set
def setH (t : Fin 8) : Finset S8x64x128.Idx := (hSlot t).view.set

def pA (t d : Dev nD) (f : Buf (Elt F) (ℓA d)) : sProp 𝕄 := (ℓA d ↦[setA t]{fullShare} f)
def pR (k : Fin 7) (d : Dev nD) (f : Buf (Elt F) (ℓR d)) : sProp 𝕄 := (ℓR d ↦[setR k]{fullShare} f)
def pH (t d : Dev nD) (f : Buf (Elt F) (ℓH d)) : sProp 𝕄 := (ℓH d ↦[setH t]{fullShare} f)
def pD (q : PosShare TreeShare) (d : Dev nD) (f : Buf (Elt F) (ℓD d)) : sProp 𝕄 := (ℓD d ↦{q} f)

instance pA_storable (t d : Dev nD) (f : Buf (Elt F) (ℓA d)) : BI.Storable (upEmb : UEmb _ 𝕄) (pA t d f) := by unfold pA; infer_instance
instance pR_storable (k : Fin 7) (d : Dev nD) (f : Buf (Elt F) (ℓR d)) : BI.Storable (upEmb : UEmb _ 𝕄) (pR k d f) := by unfold pR; infer_instance
instance pH_storable (t d : Dev nD) (f : Buf (Elt F) (ℓH d)) : BI.Storable (upEmb : UEmb _ 𝕄) (pH t d f) := by unfold pH; infer_instance
instance pD_storable (q : PosShare TreeShare) (d : Dev nD) (f : Buf (Elt F) (ℓD d)) : BI.Storable (upEmb : UEmb _ 𝕄) (pD q d f) := by unfold pD; infer_instance

/-- The shares of the reduced slot: each send takes the left half of what remains. -/
def restSh : ℕ → PosShare TreeShare
  | 0 => fullShare
  | n + 1 => (restSh n).right
def pieceSh (n : ℕ) : PosShare TreeShare := (restSh n).left

/-! ## The cells -/

/-- A device's cells: the barrier, and for each of the four semaphore arrays its seven. -/
abbrev CI : Type := Option (Fin 4 × Fin 7)
abbrev bar : CI := none
abbrev sa (k : Fin 7) : CI := some (0, k)
abbrev ra (k : Fin 7) : CI := some (1, k)
abbrev sb (k : Fin 7) : CI := some (2, k)
abbrev rb (k : Fin 7) : CI := some (3, k)

/-- The semaphore of a cell. -/
def csem : CI → SemLoc sig
  | none => .reg barS
  | some (0, k) => .dma (sendA k)
  | some (1, k) => .dma (recvA k)
  | some (2, k) => .dma (sendB k)
  | some (3, k) => .dma (recvB k)

/-- The cell of a semaphore, if it is one of the protocol's. -/
def codeOf : SemLoc sig → Option CI
  | .reg s => if s = barS then some none else none
  | .dma q => if h : 8 ≤ q.val ∧ q.val < 36 then some (some (⟨(q.val - 8) / 7, by omega⟩, ⟨(q.val - 8) % 7, Nat.mod_lt _ (by decide)⟩)) else none

/-- The cell of a cell's semaphore is that cell. -/
theorem codeOf_csem : ∀ ci : CI, codeOf (csem ci) = some ci := by decide +kernel

/-- Different cells have different semaphores. -/
theorem csem_inj : Function.Injective csem := fun a b h => by
  have := congrArg codeOf h; rw [codeOf_csem, codeOf_csem] at this; exact Option.some.inj this

abbrev cell (c : Dev nD) (ci : CI) : GSem nD τ sig := ((c : Thread nD τ), csem ci)

/-- A cell's semaphore on a device tells both the device and the cell. -/
theorem cell_inj {c c' : Dev nD} {ci ci' : CI} (h : cell c ci = cell c' ci') : c = c' ∧ ci = ci' :=
  ⟨congrArg (fun g : GSem nD τ sig => g.1.1) h, csem_inj (congrArg Prod.snd h)⟩

/-- A transfer's credit: one slot's words. -/
abbrev N : ℕ := (rSlot 0).view.dmaCredit
/-- A transfer's credit is positive. -/
theorem N_pos : 0 < N := View.dmaCredit_pos _ (by decide)

/-! ## The schedule -/

section Sched
variable (I : Inp F)

/-- What a message of the second exchange hands back to its receiver for the next layer: the sender's receive slot. -/
def hand (l : ℕ) (s : Dev nD) (k : Fin 7) : sProp 𝕄 :=
  if l < 2 then iprop((∃ f, pR (rev k) s f) ∗ reached ER (cell s (ra (rev k))) (l + 1)) else iprop(emp)

/-- What is handed over with the payment of duty `d` in round `r` of device `c`'s cell. -/
def pay (c : Dev nD) : CI → ℕ → Fin 7 → sProp 𝕄
  | none, _, d => iprop((∃ f, pR (rev d) (src c d) f) ∗ reached ER (cell (src c d) (ra (rev d))) 0)
  | some (0, k), r, _ => pA (tgt c k) c (PB I r c)
  | some (1, k), r, _ => iprop(pR k c (RA I r c) ∗ (∃ f, pH c (src c k) f) ∗ reached ER (cell (src c k) (rb (rev k))) r)
  | some (2, k), r, _ => pD (pieceSh k.val) c (RS I r c)
  | some (3, k), r, _ => iprop(pH (src c k) c (HB I r) ∗ hand r (src c k) k)

/-- A barrier signal hands over the signaller's receive slot for the one signalled. -/
theorem pay_bar (c : Dev nD) (r : ℕ) (d : Fin 7) :
    pay I c bar r d = iprop((∃ f, pR (rev d) (src c d) f) ∗ reached ER (cell (src c d) (ra (rev d))) 0) := rfl
/-- The end of a first send gives the sent slot back. -/
theorem pay_sa (c : Dev nD) (k : Fin 7) (r : ℕ) (d : Fin 7) : pay I c (sa k) r d = pA (tgt c k) c (PB I r c) := rfl
/-- A first message brings its slot, and the right to write the receiver's slot among the sender's hidden activations. -/
theorem pay_ra (c : Dev nD) (k : Fin 7) (r : ℕ) (d : Fin 7) :
    pay I c (ra k) r d = iprop(pR k c (RA I r c) ∗ (∃ f, pH c (src c k) f) ∗ reached ER (cell (src c k) (rb (rev k))) r) := rfl
/-- The end of a second send gives its share of the reduced slot back. -/
theorem pay_sb (c : Dev nD) (k : Fin 7) (r : ℕ) (d : Fin 7) : pay I c (sb k) r d = pD (pieceSh k.val) c (RS I r c) := rfl
/-- A second message brings the sender's slot of the hidden activations, and the sender's receive slot for the next layer. -/
theorem pay_rb (c : Dev nD) (k : Fin 7) (r : ℕ) (d : Fin 7) :
    pay I c (rb k) r d = iprop(pH (src c k) c (HB I r) ∗ hand r (src c k) k) := rfl

def dut : Option CI → ℕ → Finset (Fin 7)
  | some none, r => if r = 0 then Finset.univ else ∅
  | some (some _), r => if r < 3 then {0} else ∅
  | none, _ => ∅

def amt : CI → ℕ
  | none => 1
  | some _ => N

/-- The rounds: the barrier's one round has a unit from each of the seven others; every other cell's round `l` (layer
    `l`) is one transfer. -/
def Rd : Rounds.Schedule (GSem nD τ sig) (Fin 7) 𝕄 where
  duties g r := if g.1.2 = .tc then dut (codeOf g.2) r else ∅
  unitless _ := False
  amount g _ _ := match codeOf g.2 with | some ci => amt ci | none => 1
  payload g r d := match codeOf g.2 with | some ci => pay I g.1.1 ci r d | none => iprop(emp)
  amount_pos g _ _ _ := by
    split
    · rename_i ci _
      cases ci
      · exact Nat.one_pos
      · exact N_pos
    · exact Nat.one_pos

instance hand_storable (l : ℕ) (s : Dev nD) (k : Fin 7) : BI.Storable (upEmb : UEmb _ 𝕄) (hand (F := F) l s k) := by
  unfold hand; split <;> infer_instance

instance pay_storable (c : Dev nD) (ci : CI) (r : ℕ) (d : Fin 7) : BI.Storable (upEmb : UEmb _ 𝕄) (pay I c ci r d) := by
  rcases ci with _ | ⟨j, k⟩
  · unfold pay; infer_instance
  · fin_cases j <;> (unfold pay; infer_instance)

instance Rd_payload_storable (g : GSem nD τ sig) (r : ℕ) (d : Fin 7) : BI.Storable (upEmb : UEmb _ 𝕄) ((Rd I).payload g r d) := by
  show BI.Storable upEmb (match codeOf g.2 with | some ci => pay I g.1.1 ci r d | none => iprop(emp))
  split <;> infer_instance

/-- A cell's duties are those of its kind. -/
theorem duties_cell (c : Dev nD) (ci : CI) (r : ℕ) : (Rd I).duties (cell c ci) r = dut (some ci) r := by
  dsimp only [Rd]; rw [if_pos rfl, codeOf_csem]
/-- A cell's payments have the amount of its kind. -/
theorem amount_cell (c : Dev nD) (ci : CI) (r : ℕ) (d : Fin 7) : (Rd I).amount (cell c ci) r d = amt ci := by
  dsimp only [Rd]; rw [codeOf_csem]
/-- A cell's payments hand over what its kind says. -/
theorem payload_cell (c : Dev nD) (ci : CI) (r : ℕ) (d : Fin 7) : (Rd I).payload (cell c ci) r d = pay I c ci r d := by
  dsimp only [Rd]; rw [codeOf_csem]

/-- The barrier is paid by all seven. -/
theorem duties_bar (c : Dev nD) : (Rd I).duties (cell c bar) 0 = Finset.univ := by rw [duties_cell]; rfl
/-- A transfer cell has one payment in each layer. -/
theorem duties_xfer (c : Dev nD) (jk : Fin 4 × Fin 7) {r : ℕ} (hr : r < 3) : (Rd I).duties (cell c (some jk)) r = {0} := by
  rw [duties_cell]; exact if_pos hr
/-- The barrier has no later round. -/
theorem duties_bar_later (c : Dev nD) : ∀ r, 1 ≤ r → (Rd I).duties (cell c bar) r = ∅ := fun r hr => by
  rw [duties_cell]; exact if_neg (by omega)
/-- A transfer cell has no round after the third. -/
theorem duties_xfer_later (c : Dev nD) (jk : Fin 4 × Fin 7) : ∀ r, 3 ≤ r → (Rd I).duties (cell c (some jk)) r = ∅ := fun r hr => by
  rw [duties_cell]; exact if_neg (by omega)

/-- The barrier waits for seven units. -/
theorem expect_bar (c : Dev nD) : (Rd I).expect (cell c bar) 0 = 7 := by
  unfold Schedule.expect Schedule.amountOf
  rw [duties_bar, Finset.sum_congr rfl fun d _ => amount_cell I c bar 0 d, Finset.sum_const, Finset.card_univ, Fintype.card_fin, smul_eq_mul]; rfl
/-- A transfer cell waits for one slot's credit. -/
theorem expect_xfer (c : Dev nD) (jk : Fin 4 × Fin 7) {r : ℕ} (hr : r < 3) : (Rd I).expect (cell c (some jk)) r = N := by
  unfold Schedule.expect Schedule.amountOf; rw [duties_xfer I c jk hr, Finset.sum_singleton, amount_cell]; rfl

/-- The whole of a transfer cell's round is its one payload. -/
theorem rest_xfer (c : Dev nD) (jk : Fin 4 × Fin 7) {r : ℕ} (hr : r < 3) :
    bigSep ((Rd I).duties (cell c (some jk)) r \ ∅) (fun d => (Rd I).payload (cell c (some jk)) r d) = pay I c (some jk) r 0 := by
  rw [Finset.sdiff_empty, duties_xfer I c jk hr, bigSep_singleton, payload_cell]
/-- The whole of the barrier's round is the seven payloads. -/
theorem rest_bar (c : Dev nD) :
    bigSep ((Rd I).duties (cell c bar) 0 \ ∅) (fun d => (Rd I).payload (cell c bar) 0 d) = bigSep Finset.univ fun d => pay I c bar 0 d := by
  rw [Finset.sdiff_empty, duties_bar]; exact bigSep_congr fun d _ => payload_cell I c bar 0 d

end Sched

/-! ## What a device owes, and the levels -/

/-- A payment: the cell, the message index, the round. -/
abbrev Item : Type := CI × Fin 7 × ℕ

abbrev barItem (k : Fin 7) : Item := (bar, k, 0)
abbrev aItem (l : ℕ) (k : Fin 7) : Item := (ra k, k, l)
abbrev bItem (l : ℕ) (k : Fin 7) : Item := (rb k, k, l)

/-- The tally of a list of payments by device `c`, the first payment added last. -/
def due (c : Dev nD) : List Item → CellTallies nD τ sig ℕ
  | [] => 0
  | x :: xs => due c xs + tallyAt (cell (tgt c x.2.1) x.1) x.2.2 (amt x.1)

/-- A layer's payments and all later ones; and everything. -/
def itemsFrom : ℕ → List Item
  | 0 => seven.map (aItem 0) ++ (seven.map (bItem 0) ++ (seven.map (aItem 1) ++ (seven.map (bItem 1) ++ (seven.map (aItem 2) ++ (seven.map (bItem 2) ++ [])))))
  | 1 => seven.map (aItem 1) ++ (seven.map (bItem 1) ++ (seven.map (aItem 2) ++ (seven.map (bItem 2) ++ [])))
  | 2 => seven.map (aItem 2) ++ (seven.map (bItem 2) ++ [])
  | _ => []
def itemsAll : List Item := seven.map barItem ++ itemsFrom 0

/-- A layer's payments come before those of the later layers. -/
theorem itemsFrom_succ {l : ℕ} (hl : l < 3) : itemsFrom l = seven.map (aItem l) ++ (seven.map (bItem l) ++ itemsFrom (l + 1)) := by
  interval_cases l <;> rfl

/-- The level of a cell in a round. -/
def lvc : Option CI → ℕ → ℕ
  | some none, _ => 1
  | some (some (1, _)), r => 2 + 2 * r
  | some (some (3, _)), r => 3 + 2 * r
  | _, _ => 0

def L (g : GSem nD τ sig) : Finset ℕ := if g.1.2 = .tc then Finset.range 3 else ∅
def lv (g : GSem nD τ sig) (r : ℕ) : ℕ := lvc (codeOf g.2) r

/-- Only TensorCores have levels. -/
theorem L_of_ne (g : GSem nD τ sig) (h : g.1.2 ≠ .tc) : L g = ∅ := if_neg h
/-- A TensorCore's cells have the levels of three rounds. -/
theorem L_tc (c : Dev nD) (sm : SemLoc sig) : L ((c : Thread nD τ), sm) = Finset.range 3 := if_pos rfl

/-- What is owed to a cell in a round is named by a payment of the list. -/
theorem due_pos {c : Dev nD} {g : GSem nD τ sig} {u : ℕ} : ∀ {xs : List Item}, 0 < due c xs g u →
    ∃ x ∈ xs, g = cell (tgt c x.2.1) x.1 ∧ u = x.2.2
  | [], h => absurd h (Nat.lt_irrefl 0)
  | x :: xs, h => by
      unfold due at h
      rw [Pi.add_apply, Finsupp.add_apply, tallyAt_apply] at h
      by_cases hx : g = cell (tgt c x.2.1) x.1 ∧ u = x.2.2
      · exact ⟨x, List.mem_cons_self, hx⟩
      · rw [if_neg hx, Nat.add_zero] at h
        obtain ⟨y, hy, hg⟩ := due_pos h
        exact ⟨y, List.mem_cons_of_mem _ hy, hg⟩

/-- A device may wait at a cell below everything it owes. -/
theorem mayWait_due (c : Dev nD) (sm : SemLoc sig) {r : ℕ} (hr : r < 3) (xs : List Item)
    (h : ∀ x ∈ xs, x.2.2 < 3 ∧ lvc (codeOf sm) r < lvc (some x.1) x.2.2) :
    (levAts L lv : sProp 𝕄) ⊢ MayWait (c : Thread nD τ) sm r (due c xs) :=
  MayOwe.of_cut (L := L) (lev := lv) (lvc (codeOf sm) r)
    (fun p hp => by rw [Finset.mem_singleton.mp hp, L_tc]; exact Finset.mem_range.mpr hr)
    (fun g u hg => by obtain ⟨x, hx, rfl, rfl⟩ := due_pos hg; rw [L_tc]; exact Finset.mem_range.mpr (h x hx).1)
    (fun p hp => by rw [Finset.mem_singleton.mp hp]; exact le_refl _)
    (fun g u hg => by
      obtain ⟨x, hx, rfl, rfl⟩ := due_pos hg
      show _ < lvc (codeOf (csem x.1)) x.2.2
      rw [codeOf_csem]; exact (h x hx).2)

/-- The remaining payments at each wait are above it. -/
theorem above_bar : ∀ x ∈ itemsFrom 0, x.2.2 < 3 ∧ lvc (codeOf (csem bar)) 0 < lvc (some x.1) x.2.2 := by decide +kernel
/-- Every payment is of one of three rounds, at a positive level. -/
theorem above_all : ∀ x ∈ itemsAll, x.2.2 < 3 ∧ 0 < lvc (some x.1) x.2.2 := by decide +kernel
/-- Waiting for a first message, a device owes only payments of higher level. -/
theorem above_ra : ∀ l : Fin 3, ∀ k : Fin 7, ∀ x ∈ seven.map (bItem l) ++ itemsFrom (l + 1), x.2.2 < 3 ∧ lvc (codeOf (csem (ra k))) l < lvc (some x.1) x.2.2 := by
  decide +kernel
/-- Waiting for a second message, a device owes only payments of higher level. -/
theorem above_rb : ∀ l : Fin 3, ∀ k : Fin 7, ∀ x ∈ itemsFrom (l + 1), x.2.2 < 3 ∧ lvc (codeOf (csem (rb k))) l < lvc (some x.1) x.2.2 := by decide +kernel
/-- Waiting for the end of a first send, a device owes only payments of higher level. -/
theorem above_sa : ∀ l : Fin 3, ∀ k : Fin 7, ∀ x ∈ itemsFrom (l + 1), x.2.2 < 3 ∧ lvc (codeOf (csem (sa k))) l < lvc (some x.1) x.2.2 := by decide +kernel
/-- Waiting for the end of a second send, a device owes only payments of higher level. -/
theorem above_sb : ∀ l : Fin 3, ∀ k : Fin 7, ∀ x ∈ itemsFrom (l + 1), x.2.2 < 3 ∧ lvc (codeOf (csem (sb k))) l < lvc (some x.1) x.2.2 := by decide +kernel

end Cert.Mlp

end
-- ==== Proof.Slots.lean ====
/-
Slots of the buffers: which elements a slot has, a whole buffer as its slots, and what a transfer leaves in the slot it
writes.
-/
module

public import proofs.«01_k».proof.Proof.Proto

@[expose] public section

noncomputable section

namespace Cert.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 eq_ix2 eq_ix3 reshapeEquiv_ix2_1ab)

variable {F : FTy → Type} [FloatOps F]

local notation "𝕄" => MT nD τ sig ℕ (Elt F) ℕ UU ℕ

/-! ## The elements of a slot -/

def embA (t : Fin 8) (x : S64x128.Idx) : S8x64x128.Idx := (aSlot t).view.emb x

/-- Where element `(x, y)` of slot `t` of the products lies. -/
theorem emb_aSlot (t : Fin 8) (x : Fin 64) (y : Fin 128) : embA t (ix2 x y) = ix3 t x y := by
  show (Rect.unit (s := S8x64x128) ![t.val, 0, 0] S1x64x128.size (inb8 t)).emb (Shape.reshapeEquiv _ (ix2 x y)) = _
  rw [reshapeEquiv_ix2_1ab]
  funext a
  fin_cases a <;> (apply Fin.ext; simp [Rect.emb, Rect.unit])

def embH (t : Fin 8) (x : S64x128.Idx) : S8x64x128.Idx := (hSlot t).view.emb x

/-- Where element `(x, y)` of slot `t` of the hidden activations lies. -/
theorem emb_hSlot (t : Fin 8) (x : Fin 64) (y : Fin 128) : embH t (ix2 x y) = ix3 t x y := by
  show (Rect.unit (s := S8x64x128) ![t.val, 0, 0] S1x64x128.size (inb8 t)).emb (Shape.reshapeEquiv _ (ix2 x y)) = _
  rw [reshapeEquiv_ix2_1ab]
  funext a
  fin_cases a <;> (apply Fin.ext; simp [Rect.emb, Rect.unit])

def embS (k : Fin 7) (x : S64x128.Idx) : S7x64x128.Idx := (rSlot k).view.emb x

/-- Where element `(x, y)` of receive slot `k` lies. -/
theorem emb_rSlot (k : Fin 7) (x : Fin 64) (y : Fin 128) : embS k (ix2 x y) = ix3 k x y := by
  show (rect7 k).emb (Shape.reshapeEquiv _ (ix2 x y)) = _
  rw [reshapeEquiv_ix2_1ab]
  funext a
  fin_cases a <;> (apply Fin.ext; simp [Rect.emb, Rect.unit])

/-- Slot `t` of the products has the elements whose first coordinate is `t`. -/
theorem mem_setA (t : Fin 8) (i : S8x64x128.Idx) : i ∈ setA t ↔ i 0 = t := by
  constructor
  · intro h
    obtain ⟨x, -, hx⟩ := Finset.mem_map.mp h
    have hx' : embA t x = i := hx
    subst hx'
    exact congrFun ((congrArg (embA t) (eq_ix2 x)).trans (emb_aSlot t (x 0) (x 1))) 0
  · rintro rfl
    exact Finset.mem_map.mpr ⟨ix2 (i 1) (i 2), Finset.mem_univ _, (emb_aSlot _ _ _).trans (eq_ix3 i).symm⟩

/-- Slot `t` of the hidden activations has the elements whose first coordinate is `t`. -/
theorem mem_setH (t : Fin 8) (i : S8x64x128.Idx) : i ∈ setH t ↔ i 0 = t := by
  constructor
  · intro h
    obtain ⟨x, -, hx⟩ := Finset.mem_map.mp h
    have hx' : embH t x = i := hx
    subst hx'
    exact congrFun ((congrArg (embH t) (eq_ix2 x)).trans (emb_hSlot t (x 0) (x 1))) 0
  · rintro rfl
    exact Finset.mem_map.mpr ⟨ix2 (i 1) (i 2), Finset.mem_univ _, (emb_hSlot _ _ _).trans (eq_ix3 i).symm⟩

/-- Receive slot `k` has the elements whose first coordinate is `k`. -/
theorem mem_setR (k : Fin 7) (i : S7x64x128.Idx) : i ∈ setR k ↔ i 0 = k := by
  constructor
  · intro h
    obtain ⟨x, -, hx⟩ := Finset.mem_map.mp h
    have hx' : embS k x = i := hx
    subst hx'
    exact congrFun ((congrArg (embS k) (eq_ix2 x)).trans (emb_rSlot k (x 0) (x 1))) 0
  · rintro rfl
    exact Finset.mem_map.mpr ⟨ix2 (i 1) (i 2), Finset.mem_univ _, (emb_rSlot _ _ _).trans (eq_ix3 i).symm⟩

/-- The slots are apart and cover their buffer. -/
theorem disjA {t t' : Fin 8} (h : t ≠ t') : Disjoint (setA t) (setA t') :=
  Finset.disjoint_left.mpr fun i hi hi' => h (((mem_setA t i).mp hi).symm.trans ((mem_setA t' i).mp hi'))
/-- Different slots of the hidden activations are apart. -/
theorem disjH {t t' : Fin 8} (h : t ≠ t') : Disjoint (setH t) (setH t') :=
  Finset.disjoint_left.mpr fun i hi hi' => h (((mem_setH t i).mp hi).symm.trans ((mem_setH t' i).mp hi'))
/-- Different receive slots are apart. -/
theorem disjR {k k' : Fin 7} (h : k ≠ k') : Disjoint (setR k) (setR k') :=
  Finset.disjoint_left.mpr fun i hi hi' => h (((mem_setR k i).mp hi).symm.trans ((mem_setR k' i).mp hi'))
/-- The slots make up the products. -/
theorem coverA : Finset.univ.biUnion setA = Finset.univ :=
  Finset.eq_univ_iff_forall.mpr fun i => Finset.mem_biUnion.mpr ⟨i 0, Finset.mem_univ _, (mem_setA _ i).mpr rfl⟩
/-- The slots make up the hidden activations. -/
theorem coverH : Finset.univ.biUnion setH = Finset.univ :=
  Finset.eq_univ_iff_forall.mpr fun i => Finset.mem_biUnion.mpr ⟨i 0, Finset.mem_univ _, (mem_setH _ i).mpr rfl⟩
/-- The slots make up the receive buffer. -/
theorem coverR : Finset.univ.biUnion setR = Finset.univ :=
  Finset.eq_univ_iff_forall.mpr fun i => Finset.mem_biUnion.mpr ⟨i 0, Finset.mem_univ _, (mem_setR _ i).mpr rfl⟩

/-- A whole buffer is its slots. -/
theorem splitA (d : Dev nD) (f : Buf (Elt F) (ℓA d)) : (ℓA d ↦{fullShare} f : sProp 𝕄) = bigSep Finset.univ fun t => pA t d f := by
  have := pointsTo_biUnion (Ix := ℕ) (Name := ℕ) (U := UU) (Lvl := ℕ) (ℓ := ℓA d) (q := fullShare) (f := f) Finset.univ setA (fun t _ t' _ h => disjA h)
  rw [coverA] at this; exact this
/-- The hidden activations are held slot by slot. -/
theorem splitH (d : Dev nD) (f : Buf (Elt F) (ℓH d)) : (ℓH d ↦{fullShare} f : sProp 𝕄) = bigSep Finset.univ fun t => pH t d f := by
  have := pointsTo_biUnion (Ix := ℕ) (Name := ℕ) (U := UU) (Lvl := ℕ) (ℓ := ℓH d) (q := fullShare) (f := f) Finset.univ setH (fun t _ t' _ h => disjH h)
  rw [coverH] at this; exact this
/-- The receive buffer is held slot by slot. -/
theorem splitR (d : Dev nD) (f : Buf (Elt F) (ℓR d)) : (ℓR d ↦{fullShare} f : sProp 𝕄) = bigSep Finset.univ fun k => pR k d f := by
  have := pointsTo_biUnion (Ix := ℕ) (Name := ℕ) (U := UU) (Lvl := ℕ) (ℓ := ℓR d) (q := fullShare) (f := f) Finset.univ setR (fun t _ t' _ h => disjR h)
  rw [coverR] at this; exact this

/-- Slots of whatever contents make a whole buffer that agrees with each. -/
theorem joinH (d : Dev nD) (fs : Dev nD → Buf (Elt F) (ℓH d)) :
    bigSep Finset.univ (fun t => pH t d (fs t)) ⊢ (iprop(∃ g, ⌜∀ i : S8x64x128.Idx, g i = fs (i 0) i⌝ ∗ (ℓH d ↦{fullShare} g)) : sProp 𝕄) := by
  refine (pointsTo_biUnion_join (ℓ := ℓH d) Finset.univ setH fs (fs d) (fun t _ t' _ h => disjH h)).trans ?_
  rw [coverH]
  iintro ⟨%g, %hg, Hg⟩
  iexists g
  isplitr
  · ipureintro; exact fun i => hg (i 0) (Finset.mem_univ _) i ((mem_setH _ i).mpr rfl)
  iexact Hg
/-- Receive slots with any contents join to a receive buffer with some contents. -/
theorem joinR (d : Dev nD) :
    bigSep Finset.univ (fun k => iprop(∃ f, pR k d f)) ⊢ (iprop(∃ g, ℓR d ↦{fullShare} g) : sProp 𝕄) := by
  refine (BI.bigSep_exists_pi _ _).trans ?_
  iintro ⟨%fs, H⟩
  unfold pR
  ihave H := (pointsTo_biUnion_join (ℓ := ℓR d) (q := fullShare) Finset.univ setR fs (fs 0) (fun t _ t' _ h => disjR h)) $$ H
  rw [coverR]
  icases H with ⟨%g, -, Hg⟩
  iexists g; iexact Hg

/-! ## What a transfer leaves -/

/-- A first message, landed, leaves the sender's slot in the receive slot. -/
theorem landA (t : Fin 8) (k : Fin 7) (fd : Vec F S7x64x128 .bf16) (fs : Vec F S8x64x128 .bf16) (i : S7x64x128.Idx) (hi : i ∈ setR k) :
    (rSlot k).view.write (Elt F) fd ((aSlot t).view.read (Elt F) fs) Finset.univ i = fs (ix3 t (i 1) (i 2)) := by
  have h0 : i 0 = k := (mem_setR k i).mp hi
  subst h0
  have he : embS (i 0) (ix2 (i 1) (i 2)) = i := (emb_rSlot _ _ _).trans (eq_ix3 i).symm
  have hw : (rSlot (i 0)).view.write (Elt F) fd ((aSlot t).view.read (Elt F) fs) Finset.univ (embS (i 0) (ix2 (i 1) (i 2)))
      = fs (embA t (ix2 (i 1) (i 2))) := View.write_emb_of_mem _ _ (Finset.mem_univ _)
  exact ((congrArg _ he).symm.trans hw).trans (congrArg fs (emb_aSlot _ _ _))

/-- A second message, landed, leaves the sender's reduced slot among the hidden activations. -/
theorem landB (s : Fin 8) (fd : Vec F S8x64x128 .bf16) (fs : Vec F S64x128 .bf16) (i : S8x64x128.Idx) (hi : i ∈ setH s) :
    (hSlot s).view.write (Elt F) fd (mD.view.read (Elt F) fs) Finset.univ i = fs (ix2 (i 1) (i 2)) := by
  have h0 : i 0 = s := (mem_setH s i).mp hi
  subst h0
  have he : embH (i 0) (ix2 (i 1) (i 2)) = i := (emb_hSlot _ _ _).trans (eq_ix3 i).symm
  have hw : (hSlot (i 0)).view.write (Elt F) fd (mD.view.read (Elt F) fs) Finset.univ (embH (i 0) (ix2 (i 1) (i 2)))
      = fs (ix2 (i 1) (i 2)) := View.write_emb_of_mem _ _ (Finset.mem_univ _)
  exact (congrArg _ he).symm.trans hw

/-! ## Shares of the reduced slot -/

/-- The separating conjunction is associative. -/
theorem assoc_eq (P Q R : sProp 𝕄) : iprop((P ∗ Q) ∗ R) = iprop(P ∗ Q ∗ R) := by
  exact BI.Entails.antisymm BI.sep_assoc BI.sep_assoc'

/-- A send takes the left half of what remains of the reduced slot. -/
theorem splitD (d : Dev nD) (f : Buf (Elt F) (ℓD d)) (n : ℕ) :
    (pD (restSh n) d f : sProp 𝕄) ⊣⊢ iprop(pD (pieceSh n) d f ∗ pD (restSh (n + 1)) d f) := by
  unfold pD pieceSh
  exact pointsTo_share (PosShare.mem_left_op_right _)

/-- A conjunction over seven is the seven written out. -/
theorem bigSep_seven (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-- The reduced slot is the seven sends' shares and a rest. -/
theorem dealD (d : Dev nD) (f : Buf (Elt F) (ℓD d)) :
    (pD fullShare d f : sProp 𝕄) = iprop((bigSep Finset.univ fun k : Fin 7 => pD (pieceSh k.val) d f) ∗ pD (restSh 7) d f) := by
  rw [bigSep_seven]
  have h (n : ℕ) : (pD (restSh n) d f : sProp 𝕄) = iprop(pD (pieceSh n) d f ∗ pD (restSh (n + 1)) d f) :=
    Entails.antisymm (splitD d f n).1 (splitD d f n).2
  rw [show (fullShare : PosShare TreeShare) = restSh 0 from rfl, h 0, h 1, h 2, h 3, h 4, h 5, h 6]
  simp only [assoc_eq]
  rfl

end Cert.Mlp

end
-- ==== Proof.Steps.lean ====
/-
The rules of the program's steps under the protocol, one per kind of step, at a symbolic device, layer and message
index; and the rules that carry a step's rule over the seven of a group.
-/
module

public import proofs.«01_k».proof.Proof.Slots

@[expose] public section

noncomputable section

namespace Cert.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 eq_ix2 eq_ix3)

variable {F : FTy → Type} [FloatOps F]

local notation "𝕄" => MT nD τ sig ℕ (Elt F) ℕ UU ℕ

abbrev 𝒱₀ : Variants := Variants.none

/-- The program's weakest precondition on device `c`. -/
abbrev WP (c : Dev nD) (p : Pg (F := F)) (Q : PUnit → sProp 𝕄) : sProp 𝕄 :=
  wp frame (wpE (defs₀ (F := F)) 𝒱₀ (c : Thread nD τ) none) Set.univ p Q

/-- What device `c` still owes. -/
def ow (c : Dev nD) (xs : List Item) : sProp 𝕄 := iprop(∃ W, owes (c : Thread nD τ) (due c xs) W)

section Ctx
variable (I : Inp F) (K : Dev nD × CI → ℕ)

/-- What everybody knows: every cell's invariant, that every cell has reached round 0, and the levels. -/
def recs : sProp 𝕄 :=
  iprop((bigSep Finset.univ fun x : Dev nD × CI => cellInv ER (Rd I) (K x) (cell x.1 x.2))
    ∗ (bigSep Finset.univ fun x : Dev nD × CI => reached ER (cell x.1 x.2) 0) ∗ levAts L lv)

instance recs_persistent : BI.Persistent (recs I K) := by unfold recs; infer_instance

/-- Every cell's invariant is among all of them. -/
theorem all_inv (x : Dev nD × CI) :
    (bigSep Finset.univ fun x : Dev nD × CI => (cellInv ER (Rd I) (K x) (cell x.1 x.2) : sProp 𝕄)) ⊢ cellInv ER (Rd I) (K x) (cell x.1 x.2) :=
  bigSep_elim (Finset.mem_univ x)
/-- That a cell reached round 0 is among all such facts. -/
theorem all_reached (x : Dev nD × CI) :
    (bigSep Finset.univ fun x : Dev nD × CI => (reached ER (cell x.1 x.2) 0 : sProp 𝕄)) ⊢ reached ER (cell x.1 x.2) 0 :=
  bigSep_elim (Finset.mem_univ x)

/-- The shared records hold each cell's invariant. -/
theorem recs_inv (c : Dev nD) (ci : CI) : recs I K ⊢ cellInv ER (Rd I) (K (c, ci)) (cell c ci) := by
  unfold recs
  iintro ⟨H, -, -⟩
  iapply (all_inv I K (c, ci)) $$ H
/-- The shared records say that each cell reached round 0. -/
theorem recs_reached (c : Dev nD) (ci : CI) : recs I K ⊢ reached ER (cell c ci) 0 := by
  unfold recs
  iintro ⟨-, H, -⟩
  iapply (all_reached (F := F) (c, ci)) $$ H
/-- The shared records hold the levels. -/
theorem recs_lev : recs I K ⊢ levAts L lv := by
  unfold recs
  iintro ⟨-, -, H⟩
  iexact H

end Ctx

/-! ## One transfer, one wait -/

section Rules
variable (I : Inp F) (K : Dev nD × CI → ℕ) (c : Dev nD) (Q : PUnit → sProp (MT nD τ sig ℕ (Elt F) ℕ UU ℕ))

/-- A first message's credit. -/
theorem credit_r (k : Fin 7) : (rSlot k).view.amount (.dma (recvA k)) = N := rfl
/-- A second message's credit. -/
theorem credit_h (t : Fin 8) (k : Fin 7) : (hSlot t).view.amount (.dma (recvB k)) = N := rfl

/-- What the first exchange's transfer leaves is the receiver's slot of the layer. -/
theorem landedA (l : ℕ) (k : Fin 7) (fd : Buf (Elt F) (ℓR (tgt c k))) :
    (((rSlot k).view.loc (tgt c k : Thread nD τ) ↦[(rSlot k).view.set]{fullShare}
        (rSlot k).view.write (Elt F) fd ((aSlot (tgt c k)).view.read (Elt F) (PB I l c)) Finset.univ) : sProp 𝕄) = pR k (tgt c k) (RA I l (tgt c k)) := by
  refine pointsTo_congr fun (i : S7x64x128.Idx) hi => ?_
  refine (landA (tgt c k) k fd (PB I l c) i hi).trans ?_
  have h0 : i 0 = k := (mem_setR k i).mp hi
  unfold RA recvOf
  rw [h0, src_tgt]

/-- What the second exchange's transfer leaves is the sender's slot of the hidden activations. -/
theorem landedB (l : ℕ) (k : Fin 7) (fd : Buf (Elt F) (ℓH (tgt c k))) :
    (((hSlot c).view.loc (tgt c k : Thread nD τ) ↦[(hSlot c).view.set]{fullShare}
        (hSlot c).view.write (Elt F) fd (mD.view.read (Elt F) (RS I l c)) Finset.univ) : sProp 𝕄) = pH c (tgt c k) (HB I l) := by
  refine pointsTo_congr fun (i : S8x64x128.Idx) hi => ?_
  refine (landB c fd (RS I l c) i hi).trans ?_
  have h0 : i 0 = c := (mem_setH c i).mp hi
  unfold HB hidOf RS
  rw [h0]

/-- One slot of the product sent: the slot and the right to the peer's receive slot go in, with this device's slot of
    hidden activations for the peer to write; a credit at the send cell comes out. -/
theorem wp_sendA {l : ℕ} (hl : l < 3) (k : Fin 7) (xs : List Item) (κ : Pg (F := F)) :
    iprop(recs I K ∗ ow c (aItem l k :: xs) ∗ pA (tgt c k) c (PB I l c)
        ∗ ((∃ f, pR k (tgt c k) f) ∗ reached ER (cell (tgt c k) (ra k)) l)
        ∗ (∃ f, pH (tgt c k) c f) ∗ reached ER (cell c (rb (rev k))) l ∗ reached ER (cell c (sa k)) l
        ∗ dutyTok ER (cell c (sa k)) l 0 ∗ dutyTok ER (cell (tgt c k) (ra k)) l 0)
      ⊢ iprop(((ow c xs ∗ cred (tallyAt (cell c (sa k)) l N)) -∗ WP c κ Q) -∗ WP c (stSendA (placeAt c) k κ) Q) := by
  unfold ow stSendA
  iintro ⟨#HR, ⟨%W, HO⟩, HA, ⟨⟨%fd, HRv⟩, #HrR⟩, HH, #HrH, #HrS, HtS, HtR⟩
  iintro Hk
  ihave #HIs := (recs_inv I K c (sa k)) $$ HR
  ihave #HIr := (recs_inv I K (tgt c k) (ra k)) $$ HR
  iapply (Rounds.wp_send_pointsTo_with 𝒱₀ ER (Rd I) (c : Thread nD τ) none (κ₁ := K (c, sa k)) (κ₂ := K (tgt c k, ra k))
    (r₁ := l) (r₂ := l) (d₁ := 0) (d₂ := 0) (fd := fd) (q := fullShare) (fs := PB I l c)
    (F := iprop((∃ f, pH (tgt c k) c f) ∗ reached ER (cell c (rb (rev k))) l))
    (by rw [duties_xfer I c _ hl]; exact Finset.mem_singleton_self _) (by rw [duties_xfer I _ _ hl]; exact Finset.mem_singleton_self _)
    l l N (credit_r k) (amount_cell I c (sa k) l 0) (amount_cell I (tgt c k) (ra k) l 0) (due c xs) rfl (W := W)
    (by rw [payload_cell, pay_sa]; exact BI.Entails.refl _)
    (by rw [payload_cell, pay_ra, src_tgt]; exact BI.sep_mono (Entails.of_eq (landedA I c l k fd)) (BI.Entails.refl _))) $$ [HO HA HRv HH HtS HtR]
  · isplitr; · iexact HIs
    isplitr; · iexact HIr
    isplitl [HA]; · unfold pA; iexact HA
    isplitl [HRv HH]
    · isplitl [HRv]; · unfold pR; iexact HRv
      isplitl [HH]; · iexact HH
      iexact HrH
    isplitl [HO]; · iexact HO
    isplitl [HtS]; · iexact HtS
    isplitr; · iexact HrS
    isplitl [HtR]; · iexact HtR
    iexact HrR
  iintro ⟨Hc, HO⟩
  iapply Hk
  isplitl [HO]; · iexists W; iexact HO
  iexact Hc

/-- The reduced slot sent: a share of it and the right to write the peer's slot go in, with this device's receive slot
    for the next layer (`hand`); a credit at the send cell comes out. -/
theorem wp_sendB {l : ℕ} (hl : l < 3) (k : Fin 7) (xs : List Item) (κ : Pg (F := F)) :
    iprop(recs I K ∗ ow c (bItem l k :: xs) ∗ pD (pieceSh k.val) c (RS I l c)
        ∗ (∃ f, pH c (tgt c k) f) ∗ reached ER (cell (tgt c k) (rb k)) l ∗ hand l c k ∗ reached ER (cell c (sb k)) l
        ∗ dutyTok ER (cell c (sb k)) l 0 ∗ dutyTok ER (cell (tgt c k) (rb k)) l 0)
      ⊢ iprop(((ow c xs ∗ cred (tallyAt (cell c (sb k)) l N)) -∗ WP c κ Q) -∗ WP c (stSendB (placeAt c) k κ) Q) := by
  unfold ow stSendB
  iintro ⟨#HR, ⟨%W, HO⟩, HD, ⟨%fd, HH⟩, #HrR, Hhand, #HrS, HtS, HtR⟩
  iintro Hk
  ihave #HIs := (recs_inv I K c (sb k)) $$ HR
  ihave #HIr := (recs_inv I K (tgt c k) (rb k)) $$ HR
  iapply (Rounds.wp_send_pointsTo_with 𝒱₀ ER (Rd I) (c : Thread nD τ) none (κ₁ := K (c, sb k)) (κ₂ := K (tgt c k, rb k))
    (r₁ := l) (r₂ := l) (d₁ := 0) (d₂ := 0) (fd := fd) (q := pieceSh k.val) (fs := RS I l c)
    (F := hand l c k)
    (by rw [duties_xfer I c _ hl]; exact Finset.mem_singleton_self _) (by rw [duties_xfer I _ _ hl]; exact Finset.mem_singleton_self _)
    l l N (credit_h c k) (amount_cell I c (sb k) l 0) (amount_cell I (tgt c k) (rb k) l 0) (due c xs) rfl (W := W)
    (by rw [payload_cell, pay_sb, View.set_whole]; exact BI.Entails.refl _)
    (by rw [payload_cell, pay_rb, src_tgt]; exact BI.sep_mono (Entails.of_eq (landedB I c l k fd)) (BI.Entails.refl _))) $$ [HO HD HH Hhand HtS HtR]
  · isplitr; · iexact HIs
    isplitr; · iexact HIr
    isplitl [HD]; · rw [View.set_whole]; unfold pD; iexact HD
    isplitl [HH Hhand]
    · isplitl [HH]; · unfold pH; iexact HH
      iexact Hhand
    isplitl [HO]; · iexact HO
    isplitl [HtS]; · iexact HtS
    isplitr; · iexact HrS
    isplitl [HtR]; · iexact HtR
    iexact HrR
  iintro ⟨Hc, HO⟩
  iapply Hk
  isplitl [HO]; · iexists W; iexact HO
  iexact Hc

/-- A wait for a whole round of a transfer cell: its credit and the device's position go in, what the payment handed
    over comes out. -/
theorem wp_wait {l : ℕ} (hl : l < 3) (jk : Fin 4 × Fin 7) (xs : List Item) (sem : DmaSem sig) (hs : csem (some jk) = .dma sem)
    (h : ∀ x ∈ xs, x.2.2 < 3 ∧ lvc (codeOf (csem (some jk))) l < lvc (some x.1) x.2.2)
    {sp sp' : Space} {s s' : Shape} {e e' : EltTy}
    (src : Memref sig .tc sp s e) (dst : Memref sig .tc sp' s' e') (hsrc : src.view.WordExact) (hdst : dst.view.WordExact)
    (hN : dst.view.dmaCredit = N) (k : PUnit → Pg (F := F)) :
    iprop(recs I K ∗ ow c xs ∗ cred (tallyAt (cell c (some jk)) l N) ∗ atPos ER (cell c (some jk)) l ∅ 0)
      ⊢ iprop(((ow c xs ∗ atPos ER (cell c (some jk)) (l + 1) ∅ 0 ∗ reached ER (cell c (some jk)) (l + 1) ∗ pay I c (some jk) l 0) -∗ WP c (k ⟨⟩) Q)
          -∗ WP c (.op (.waitDma2 sem src dst hsrc hdst) k) Q) := by
  unfold ow
  iintro ⟨#HR, ⟨%W, HO⟩, Hc, Hat⟩
  iintro Hk
  ihave #HIs := (recs_inv I K c (some jk)) $$ HR
  ihave #HL := (recs_lev I K) $$ HR
  have hcell : cell c (some jk) = ((c : Thread nD τ), SemLoc.dma sem) := by unfold cell; rw [hs]
  have hm := mayWait_due (F := F) c (csem (some jk)) hl xs h
  have hrest := rest_xfer I c jk hl
  have hexp := expect_xfer I c jk hl
  rw [hcell] at hrest hexp ⊢
  rw [hs] at hm
  iapply (Rounds.wp_wait_rest_token 𝒱₀ ER (Rd I) (c : Thread nD τ) none (κ := K (c, some jk))
      (wpE_waitDma2_eq 𝒱₀ (c : Thread nD τ) none Set.univ) (Set.mem_univ _) l (O := due c xs) (W := W) (R := l) (m := 0) (T := ∅)
      (by rw [Nat.zero_add, hexp, ← hN])) $$ [Hc HO Hat]
  · isplitr; · iexact HIs
    isplitl [Hc]; · rw [hN]; iexact Hc
    isplitl [HO]; · iexact HO
    isplitr; · iapply hm; iexact HL
    iexact Hat
  iintro ⟨HO, Hat, Hr, Hpay⟩
  ihave Hp := (Entails.of_eq hrest) $$ Hpay
  iapply Hk
  isplitl [HO]; · iexists _; iexact HO
  isplitl [Hat]; · iexact Hat
  isplitl [Hr]; · iexact Hr
  iexact Hp

end Rules

/-! ## Seven steps in a row -/

/-- The separating conjunction over a list of message indices. -/
def bigL (Φ : Fin 7 → sProp 𝕄) : List (Fin 7) → sProp 𝕄
  | [] => iprop(emp)
  | k :: ks => iprop(Φ k ∗ bigL Φ ks)

/-- The conjunction along the list of seven is that over the seven. -/
theorem bigL_seven (Φ : Fin 7 → sProp 𝕄) : bigL Φ seven = bigSep Finset.univ Φ := by
  rw [bigSep_seven]
  simp only [bigL]
  have e : iprop(Φ 6 ∗ emp) = Φ 6 := Entails.antisymm sep_emp.1 sep_emp.2
  rw [e]

/-- From the rule of one step, with a resource `S` that depends on the steps still to come, the rule of the group. -/
theorem wp_seq (c : Dev nD) (Q : PUnit → sProp 𝕄) (S : List (Fin 7) → sProp 𝕄) (A B : Fin 7 → sProp 𝕄) (f : Fin 7 → Pg (F := F) → Pg (F := F))
    (h : ∀ k ks κ, iprop(S (k :: ks) ∗ A k) ⊢ iprop(((S ks ∗ B k) -∗ WP c κ Q) -∗ WP c (f k κ) Q)) :
    ∀ ks κ, iprop(S ks ∗ bigL A ks) ⊢ iprop(((S [] ∗ bigL B ks) -∗ WP c κ Q) -∗ WP c (seqK f ks κ) Q)
  | [], κ => by
      unfold bigL seqK
      iintro ⟨HS, -⟩ Hk
      iapply Hk
      isplitl [HS]; · iexact HS
      iempintro
  | k :: ks, κ => by
      unfold bigL seqK
      iintro ⟨HS, HA, HAs⟩ Hk
      iapply (h k ks _) $$ [HS HA]
      · isplitl [HS] <;> iassumption
      iintro ⟨HS, HB⟩
      iapply (wp_seq c Q S A B f h ks κ) $$ [HS HAs]
      · isplitl [HS] <;> iassumption
      iintro ⟨HS, HBs⟩
      iapply Hk
      isplitl [HS]; · iexact HS
      isplitl [HB] <;> iassumption

/-- The same with a value carried, each step `k` taking `a` to `g a k`. -/
theorem wp_acc {T : Type} (c : Dev nD) (Q : PUnit → sProp 𝕄) (S : List (Fin 7) → sProp 𝕄) (A B : Fin 7 → sProp 𝕄)
    (f : Fin 7 → T → (T → Pg (F := F)) → Pg (F := F)) (g : T → Fin 7 → T)
    (h : ∀ k ks a κ, iprop(S (k :: ks) ∗ A k) ⊢ iprop(((S ks ∗ B k) -∗ WP c (κ (g a k)) Q) -∗ WP c (f k a κ) Q)) :
    ∀ ks a κ, iprop(S ks ∗ bigL A ks) ⊢ iprop(((S [] ∗ bigL B ks) -∗ WP c (κ (ks.foldl g a)) Q) -∗ WP c (accK f ks a κ) Q)
  | [], a, κ => by
      unfold bigL accK
      iintro ⟨HS, -⟩ Hk
      iapply Hk
      isplitl [HS]; · iexact HS
      iempintro
  | k :: ks, a, κ => by
      unfold bigL accK
      iintro ⟨HS, HA, HAs⟩ Hk
      iapply (h k ks a _) $$ [HS HA]
      · isplitl [HS] <;> iassumption
      iintro ⟨HS, HB⟩
      iapply (wp_acc c Q S A B f g h ks (g a k) κ) $$ [HS HAs]
      · isplitl [HS] <;> iassumption
      iintro ⟨HS, HBs⟩
      iapply Hk
      isplitl [HS]; · iexact HS
      isplitl [HB] <;> iassumption

end Cert.Mlp

end
-- ==== Proof.Mask.lean ====
/-
The device's own slot: the mask is set at slot `c` only, and the next activations do not depend on what the buffer of
hidden activations holds there.
-/
module

public import proofs.«01_k».proof.Proof.Slots
public import Idealize.ShloMosaic.Lib.Pipeline.Value

@[expose] public section

noncomputable section

namespace Cert.Mlp

open Cert.KernelIdeal Cert.KernelIdeal.Gen
open Idealize.ShloMosaic Idealize.ShloMosaic.TcCoe
open Idealize.ShloMosaic.ValueIdx (ix2 ix3 eq_ix2 eq_ix3)

variable {F : FTy → Type} [FloatOps F]

/-- The mask spread over the slots. -/
def maskB (c : Dev nD) : IVec S8x64x128 1 :=
  broadcastTo S8x64x128 (shapeCast S8x1x1 (k0_pay1 c) shapeCasts_S8x1x1_S8x1x1) broadcasts_S8x1x1_S8x64x128

/-- The mask is one at the device's own slot and zero elsewhere. -/
theorem pay1_at : ∀ (c : Dev nD) (t : Fin 8), k0_pay1 c (ix3 t 0 0) = if t.val = c.val then 1#1 else 0#1 := by decide +kernel

/-- The mask spread over whole slots is one on the device's own slot and zero elsewhere. -/
theorem maskB_apply (c : Dev nD) (i : S8x64x128.Idx) : maskB c i = if (i 0).val = c.val then 1#1 else 0#1 := by
  unfold maskB
  rw [shapeCast_self]
  exact (broadcastTo_apply _ _ i (ix3 (i 0) 0 0) (fun a => by fin_cases a <;> rfl)).trans (pay1_at c (i 0))

/-- A choice by the mask: the first at slot `c`, the second elsewhere. -/
theorem select_mask {α : Type} (c : Dev nD) (a b : S8x64x128.Idx → α) (i : S8x64x128.Idx) :
    select (maskB c) a b i = if (i 0).val = c.val then a i else b i := by
  show Scalar.select (maskB c i) (a i) (b i) = _
  rw [maskB_apply]
  by_cases h : (i 0).val = c.val
  · rw [if_pos h, if_pos h]; rfl
  · rw [if_neg h, if_neg h]; rfl

/-- The next activations are the same for two buffers of hidden activations that agree off the device's own slot. -/
theorem nxt_own (c : Dev nD) (r : FVec F S64x128 .bf16) (g h : FVec F S8x64x128 .bf16) (w : FVec F S1024x512 .f32)
    (e : ∀ i : S8x64x128.Idx, i 0 ≠ c → g i = h i) : nxt (k0_pay1 c) r g w = nxt (k0_pay1 c) r h w := by
  have hs (v : S8x64x128.Idx → F .bf16) : select (maskB c) v g = select (maskB c) v h := funext fun i => by
    rw [select_mask, select_mask]
    by_cases h0 : (i 0).val = c.val
    · rw [if_pos h0, if_pos h0]
    · rw [if_neg h0, if_neg h0]; exact e i fun h1 => h0 (congrArg Fin.val h1)
  unfold nxt k0_pay17
  have hs' := hs (broadcastTo S8x64x128 (shapeCast S1x64x128 (shapeCast S1x64x128 r shapeCasts_S64x128_S1x64x128) shapeCasts_S1x64x128_S1x64x128) broadcasts_S1x64x128_S8x64x128)
  unfold maskB at hs'
  simp only [hs']

end Cert.Mlp

end
-- ==== Proof.Layer.lean ====
/-
One layer, at a symbolic device and a symbolic layer: the two exchanges group by group, and the layer as a whole.
-/
module

public import proofs.«01_k».proof.Proof.Steps
public import proofs.«01_k».proof.Proof.Mask

@[expose] public section

noncomputable section

namespace Cert.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 eq_ix2 eq_ix3)

variable {F : FTy → Type} [FloatOps F]

local notation "𝕄" => MT nD τ sig ℕ (Elt F) ℕ UU ℕ

/-- Receive slots with known contents are receive slots with some contents. -/
theorem any_slot (c : Dev nD) (g : Fin 7 → Buf (Elt F) (ℓR c)) :
    (bigSep Finset.univ fun k : Fin 7 => pR k c (g k)) ⊢ (bigSep Finset.univ fun k : Fin 7 => iprop(∃ f, pR k c f) : sProp 𝕄) :=
  bigSep_mono fun k _ => show pR k c (g k) ⊢ iprop(∃ f, pR k c f) by iintro H; iexists _; iexact H

/-- A conjunction may be forgotten. -/
theorem drop_all (Φ : Fin 7 → sProp 𝕄) : bigSep Finset.univ Φ ⊢ (bigSep Finset.univ fun k : Fin 7 => iprop(emp) : sProp 𝕄) :=
  bigSep_mono fun k _ => show Φ k ⊢ iprop(emp) by iintro -; iempintro

/-- The right to write the peers' receive slots in layer `l`; after the last layer, the device's own receive slots. -/
def rightR (l : ℕ) (c : Dev nD) (k : Fin 7) : sProp 𝕄 :=
  if l < 3 then iprop((∃ f, pR k (tgt c k) f) ∗ reached ER (cell (tgt c k) (ra k)) l) else iprop(∃ f, pR k c f)

/-- The receive slots not handed on. -/
def keep (l : ℕ) (c : Dev nD) : sProp 𝕄 := if l < 2 then iprop(emp) else bigSep Finset.univ fun k : Fin 7 => iprop(∃ f, pR k c f)

/-- After a layer's sum a device's receive slots, read out, are what its second messages hand on; in the last layer it keeps them. -/
theorem give_hand (I : Inp F) (l : ℕ) (c : Dev nD) :
    iprop((bigSep Finset.univ fun k : Fin 7 => pR k c (RA I l c)) ∗ bigSep Finset.univ fun k : Fin 7 => reached ER (cell c (ra k)) (l + 1)) ⊢ iprop((bigSep Finset.univ fun k : Fin 7 => hand l c k) ∗ keep (F := F) l c) := by
  unfold hand keep
  by_cases h : l < 2
  · simp only [if_pos h]
    rw [bigSep_revK (fun k => iprop((∃ f, pR k c f) ∗ reached ER (cell c (ra k)) (l + 1))), bigSep_sep']
    iintro ⟨H1, H2⟩
    isplitl
    · isplitl [H1]
      · iapply (any_slot c _); iexact H1
      · iexact H2
    · iempintro
  · simp only [if_neg h]
    iintro ⟨H1, H2⟩
    isplitl [H2]
    · iapply (drop_all _); iexact H2
    · iapply (any_slot c _); iexact H1

/-- What the second messages hand over, with what was kept, is the right to write the next layer's receive slots. -/
theorem take_hand (l : ℕ) (c : Dev nD) :
    iprop((bigSep Finset.univ fun k : Fin 7 => hand l (src c k) k) ∗ keep l c) ⊢ (bigSep Finset.univ fun k : Fin 7 => rightR (l + 1) c k : sProp 𝕄) := by
  unfold hand keep rightR
  by_cases h : l < 2
  · simp only [if_pos h, if_pos (show l + 1 < 3 by omega)]
    rw [← bigSep_revK (fun k => iprop((∃ f, pR k (tgt c k) f) ∗ reached ER (cell (tgt c k) (ra k)) (l + 1)))]
    simp only [tgt_rev]
    iintro ⟨H, -⟩
    iexact H
  · simp only [if_neg h, if_neg (show ¬ l + 1 < 3 by omega)]
    iintro ⟨-, H⟩
    iexact H

section Phases
variable (I : Inp F) (K : Dev nD × CI → ℕ) (c : Dev nD) (Q : PUnit → sProp (MT nD τ sig ℕ (Elt F) ℕ UU ℕ))

/-- The seven sends of the first exchange. -/
theorem ph_sendA {l : ℕ} (hl : l < 3) (xs : List Item) (κ : Pg (F := F)) :
    iprop(recs I K ∗ ow c (seven.map (aItem l) ++ xs) ∗ (bigSep Finset.univ fun k : Fin 7 => pA (tgt c k) c (PB I l c)) ∗ (bigSep Finset.univ fun k : Fin 7 => rightR l c k)
        ∗ (bigSep Finset.univ fun k : Fin 7 => iprop(∃ f, pH (tgt c k) c f)) ∗ (bigSep Finset.univ fun k : Fin 7 => reached ER (cell c (rb (rev k))) l) ∗ (bigSep Finset.univ fun k : Fin 7 => reached ER (cell c (sa k)) l)
        ∗ (bigSep Finset.univ fun k : Fin 7 => dutyTok ER (cell c (sa k)) l 0) ∗ (bigSep Finset.univ fun k : Fin 7 => dutyTok ER (cell (tgt c k) (ra k)) l 0))
      ⊢ iprop(((ow c xs ∗ bigSep Finset.univ fun k : Fin 7 => cred (tallyAt (cell c (sa k)) l N)) -∗ WP c κ Q) -∗ WP c (seqK (stSendA (placeAt c)) seven κ) Q) := by
  have h := wp_seq c Q (fun ks => iprop(recs I K ∗ ow c (ks.map (aItem l) ++ xs)))
    (fun k => iprop(pA (tgt c k) c (PB I l c) ∗ rightR l c k ∗ (∃ f, pH (tgt c k) c f) ∗ reached ER (cell c (rb (rev k))) l ∗ reached ER (cell c (sa k)) l
        ∗ dutyTok ER (cell c (sa k)) l 0 ∗ dutyTok ER (cell (tgt c k) (ra k)) l 0))
    (fun k => cred (tallyAt (cell c (sa k)) l N)) (stSendA (placeAt c))
    (fun k ks κ => by
      unfold rightR; simp only [if_pos hl]
      iintro ⟨⟨#HR, HO⟩, HA⟩ Hk
      iapply (wp_sendA I K c Q hl k (ks.map (aItem l) ++ xs) κ) $$ [HO HA]
      · isplitr; · iexact HR
        isplitl [HO]; · iexact HO
        iexact HA
      iintro ⟨HO, Hc⟩
      iapply Hk
      isplitr [Hc]
      · isplitr; · iexact HR
        iexact HO
      iexact Hc) seven κ
  rw [bigL_seven, bigL_seven] at h
  simp only [bigSep_sep'] at h
  iintro ⟨#HR, HO, HA⟩ Hk
  iapply h $$ [HO HA]
  · isplitl [HO]
    · isplitr; · iexact HR
      iexact HO
    iexact HA
  iintro ⟨⟨-, HO⟩, Hc⟩
  iapply Hk
  isplitl [HO]; · iexact HO
  iexact Hc

/-- The seven sends of the second exchange. -/
theorem ph_sendB {l : ℕ} (hl : l < 3) (xs : List Item) (κ : Pg (F := F)) :
    iprop(recs I K ∗ ow c (seven.map (bItem l) ++ xs) ∗ (bigSep Finset.univ fun k : Fin 7 => pD (pieceSh k.val) c (RS I l c))
        ∗ (bigSep Finset.univ fun k : Fin 7 => iprop(∃ f, pH c (tgt c k) f)) ∗ (bigSep Finset.univ fun k : Fin 7 => reached ER (cell (tgt c k) (rb k)) l) ∗ (bigSep Finset.univ fun k : Fin 7 => hand l c k)
        ∗ (bigSep Finset.univ fun k : Fin 7 => reached ER (cell c (sb k)) l)
        ∗ (bigSep Finset.univ fun k : Fin 7 => dutyTok ER (cell c (sb k)) l 0) ∗ (bigSep Finset.univ fun k : Fin 7 => dutyTok ER (cell (tgt c k) (rb k)) l 0))
      ⊢ iprop(((ow c xs ∗ bigSep Finset.univ fun k : Fin 7 => cred (tallyAt (cell c (sb k)) l N)) -∗ WP c κ Q) -∗ WP c (seqK (stSendB (placeAt c)) seven κ) Q) := by
  have h := wp_seq c Q (fun ks => iprop(recs I K ∗ ow c (ks.map (bItem l) ++ xs)))
    (fun k => iprop(pD (pieceSh k.val) c (RS I l c) ∗ (∃ f, pH c (tgt c k) f) ∗ reached ER (cell (tgt c k) (rb k)) l ∗ hand l c k ∗ reached ER (cell c (sb k)) l
        ∗ dutyTok ER (cell c (sb k)) l 0 ∗ dutyTok ER (cell (tgt c k) (rb k)) l 0))
    (fun k => cred (tallyAt (cell c (sb k)) l N)) (stSendB (placeAt c))
    (fun k ks κ => by
      iintro ⟨⟨#HR, HO⟩, HA⟩ Hk
      iapply (wp_sendB I K c Q hl k (ks.map (bItem l) ++ xs) κ) $$ [HO HA]
      · isplitr; · iexact HR
        isplitl [HO]; · iexact HO
        iexact HA
      iintro ⟨HO, Hc⟩
      iapply Hk
      isplitr [Hc]
      · isplitr; · iexact HR
        iexact HO
      iexact Hc) seven κ
  rw [bigL_seven, bigL_seven] at h
  simp only [bigSep_sep'] at h
  iintro ⟨#HR, HO, HA⟩ Hk
  iapply h $$ [HO HA]
  · isplitl [HO]
    · isplitr; · iexact HR
      iexact HO
    iexact HA
  iintro ⟨⟨-, HO⟩, Hc⟩
  iapply Hk
  isplitl [HO]; · iexact HO
  iexact Hc

/-- Seven waits, each for a round of one of the cells of an array. -/
theorem ph_waits {l : ℕ} (j : Fin 4) (xs : List Item) (f : Fin 7 → Pg (F := F) → Pg (F := F))
    (hf : ∀ k κ, iprop(recs I K ∗ ow c xs ∗ cred (tallyAt (cell c (some (j, k))) l N) ∗ atPos ER (cell c (some (j, k))) l ∅ 0)
      ⊢ iprop(((ow c xs ∗ atPos ER (cell c (some (j, k))) (l + 1) ∅ 0 ∗ reached ER (cell c (some (j, k))) (l + 1) ∗ pay I c (some (j, k)) l 0) -∗ WP c κ Q)
          -∗ WP c (f k κ) Q)) (κ : Pg (F := F)) :
    iprop(recs I K ∗ ow c xs ∗ (bigSep Finset.univ fun k : Fin 7 => cred (tallyAt (cell c (some (j, k))) l N)) ∗ (bigSep Finset.univ fun k : Fin 7 => atPos ER (cell c (some (j, k))) l ∅ 0))
      ⊢ iprop(((ow c xs ∗ (bigSep Finset.univ fun k : Fin 7 => atPos ER (cell c (some (j, k))) (l + 1) ∅ 0) ∗ (bigSep Finset.univ fun k : Fin 7 => reached ER (cell c (some (j, k))) (l + 1))
            ∗ (bigSep Finset.univ fun k : Fin 7 => pay I c (some (j, k)) l 0)) -∗ WP c κ Q)
          -∗ WP c (seqK f seven κ) Q) := by
  have h := wp_seq c Q (fun _ => iprop(recs I K ∗ ow c xs))
    (fun k => iprop(cred (tallyAt (cell c (some (j, k))) l N) ∗ atPos ER (cell c (some (j, k))) l ∅ 0))
    (fun k => iprop(atPos ER (cell c (some (j, k))) (l + 1) ∅ 0 ∗ reached ER (cell c (some (j, k))) (l + 1) ∗ pay I c (some (j, k)) l 0)) f
    (fun k ks κ => by
      iintro ⟨⟨#HR, HO⟩, HA⟩ Hk
      iapply (hf k κ) $$ [HO HA]
      · isplitr; · iexact HR
        isplitl [HO]; · iexact HO
        iexact HA
      iintro ⟨HO, HB⟩
      iapply Hk
      isplitr [HB]
      · isplitr; · iexact HR
        iexact HO
      iexact HB) seven κ
  rw [bigL_seven, bigL_seven] at h
  simp only [bigSep_sep'] at h
  iintro ⟨#HR, HO, HA⟩ Hk
  iapply h $$ [HO HA]
  · isplitl [HO]
    · isplitr; · iexact HR
      iexact HO
    iexact HA
  iintro ⟨⟨-, HO⟩, HB⟩
  iapply Hk
  isplitl [HO]; · iexact HO
  iexact HB

/-- The elements read of a receive slot are the slot's. -/
theorem rect7_sub (k : Fin 7) : mR.view.setOn (rect7 k).toLoadRect.set ⊆ setR k := by
  intro i hi
  obtain ⟨x, hx, hxi⟩ := Finset.mem_map.mp hi
  have hx' : x = i := hxi
  subst hx'
  obtain ⟨j, hj, hv⟩ := (LoadRect.mem_set _).mp hx 0
  have hj' : j < 1 := hj
  have hv' : (x 0 : ℕ) = k.val + 1 * j := hv
  rw [mem_setR]
  apply Fin.ext
  show (x 0 : ℕ) = k.val
  omega

/-- The seven receives of the first exchange, each slot added to the sum. -/
theorem ph_recvA {l : ℕ} (hl : l < 3) (xs : List Item)
    (hxs : ∀ k : Fin 7, ∀ x ∈ xs, x.2.2 < 3 ∧ lvc (codeOf (csem (ra k))) l < lvc (some x.1) x.2.2)
    (a : FVec F S64x128 .f32) (κ : FVec F S64x128 .f32 → Pg (F := F)) :
    iprop(recs I K ∗ ow c xs ∗ (bigSep Finset.univ fun k : Fin 7 => cred (tallyAt (cell c (ra k)) l N)) ∗ (bigSep Finset.univ fun k : Fin 7 => atPos ER (cell c (ra k)) l ∅ 0))
      ⊢ iprop(((ow c xs ∗ (bigSep Finset.univ fun k : Fin 7 => atPos ER (cell c (ra k)) (l + 1) ∅ 0) ∗ (bigSep Finset.univ fun k : Fin 7 => reached ER (cell c (ra k)) (l + 1))
            ∗ (bigSep Finset.univ fun k : Fin 7 => pR k c (RA I l c)) ∗ (bigSep Finset.univ fun k : Fin 7 => iprop(∃ f, pH c (src c k) f)) ∗ (bigSep Finset.univ fun k : Fin 7 => reached ER (cell (src c k) (rb (rev k))) l))
              -∗ WP c (κ (accFold (recvAt (PB I l) c) seven a)) Q)
          -∗ WP c (accK (stRecvA (placeAt c)) seven a κ) Q) := by
  have h := wp_acc c Q (fun _ => iprop(recs I K ∗ ow c xs))
    (fun k => iprop(cred (tallyAt (cell c (ra k)) l N) ∗ atPos ER (cell c (ra k)) l ∅ 0))
    (fun k => iprop(atPos ER (cell c (ra k)) (l + 1) ∅ 0 ∗ reached ER (cell c (ra k)) (l + 1)
      ∗ pR k c (RA I l c) ∗ (∃ f, pH c (src c k) f) ∗ reached ER (cell (src c k) (rb (rev k))) l)) (stRecvA (placeAt c))
    (fun a k => accAdd a (recvAt (PB I l) c k))
    (fun k ks a κ => by
      unfold stRecvA
      iintro ⟨⟨#HR, HO⟩, HA⟩ Hk
      iapply (wp_wait I K c Q hl (1, k) xs (recvA k) rfl (hxs k) (slot8 mA ((placeAt c).pa k)) (rSlot k)
        (((Memref.isWhole_whole _ : mA.IsWhole).wordExact_slice rfl _ ((placeAt c).pa k).words).reshape _ _)
        (((Memref.isWhole_whole _ : mR.IsWhole).wordExact_slice rfl _ (words7 k)).reshape _ _) (credit_r k) _) $$ [HO HA]
      · isplitr; · iexact HR
        isplitl [HO]; · iexact HO
        iexact HA
      rw [show pay I c (some (1, k)) l 0 = _ from pay_ra I c k l 0]
      unfold pR
      iintro ⟨HO, Hat, Hre, HRv, HH, Hrb⟩
      iapply (wp_load 𝒱₀ (c : Thread nD τ) none Set.univ (m := mR) (rect7_sub k)) $$ HRv
      iintro HRv
      iapply Hk
      isplitl [HO]
      · isplitr; · iexact HR
        iexact HO
      isplitl [Hat]; · iexact Hat
      isplitl [Hre]; · iexact Hre
      isplitl [HRv]; · iexact HRv
      isplitl [HH]; · iexact HH
      iexact Hrb) seven a κ
  rw [bigL_seven, bigL_seven] at h
  simp only [bigSep_sep'] at h
  iintro ⟨#HR, HO, HA⟩ Hk
  iapply h $$ [HO HA]
  · isplitl [HO]
    · isplitr; · iexact HR
      iexact HO
    iexact HA
  iintro ⟨⟨-, HO⟩, HB⟩
  iapply Hk
  isplitl [HO]; · iexact HO
  iexact HB

end Phases

end Cert.Mlp

end
-- ==== Proof.Pass.lean ====
/-
A layer as a whole, at a symbolic device and a symbolic layer.
-/
module

public import proofs.«01_k».proof.Proof.Layer

@[expose] public section

noncomputable section

namespace Cert.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 eq_ix2 eq_ix3)

variable {F : FTy → Type} [FloatOps F]

local notation "𝕄" => MT nD τ sig ℕ (Elt F) ℕ UU ℕ

/-! ## Buffers around a device's own slot -/

/-- The buffer of products is its own slot and the slots for the seven targets. -/
theorem aroundA (c : Dev nD) (f : Buf (Elt F) (ℓA c)) :
    (ℓA c ↦{fullShare} f : sProp 𝕄) = iprop(pA c c f ∗ bigSep Finset.univ fun k : Fin 7 => pA (tgt c k) c f) :=
  (splitA c f).trans (bigSep_around c _)

/-- The buffer of hidden activations is its own slot and the slots of the seven others. -/
theorem aroundH (c : Dev nD) (f : Buf (Elt F) (ℓH c)) :
    (ℓH c ↦{fullShare} f : sProp 𝕄) = iprop(pH c c f ∗ bigSep Finset.univ fun k : Fin 7 => pH (tgt c k) c f) :=
  (splitH c f).trans (bigSep_around c _)

/-- Slots of hidden activations with known contents are slots with some contents. -/
theorem any_hid (c : Dev nD) (f : Buf (Elt F) (ℓH c)) :
    (bigSep Finset.univ fun k : Fin 7 => pH (tgt c k) c f) ⊢ (bigSep Finset.univ fun k : Fin 7 => iprop(∃ f, pH (tgt c k) c f) : sProp 𝕄) :=
  bigSep_mono fun k _ => show pH (tgt c k) c f ⊢ iprop(∃ f, pH (tgt c k) c f) by iintro H; iexists _; iexact H

/-- The received slots and the device's own, whatever it holds, are the hidden activations but for the own slot. -/
theorem joinOwn (c : Dev nD) (f : Buf (Elt F) (ℓH c)) (h : Vec F S8x64x128 .bf16) :
    iprop(pH c c f ∗ bigSep Finset.univ fun k : Fin 7 => pH (src c k) c h)
      ⊢ (iprop(∃ g, ⌜∀ i : S8x64x128.Idx, i 0 ≠ c → g i = h i⌝ ∗ (ℓH c ↦{fullShare} g)) : sProp 𝕄) := by
  have hj := joinH (F := F) c fun t => if t = c then f else h
  rw [bigSep_around c, if_pos rfl, bigSep_congr (fun (k : Fin 7) _ => show pH (tgt c k) c (if tgt c k = c then f else h) = pH (tgt c k) c h by
    rw [if_neg (tgt_ne c k)])] at hj
  have hr : (bigSep Finset.univ fun k : Fin 7 => (pH (src c k) c h : sProp 𝕄)) = bigSep Finset.univ fun k : Fin 7 => pH (tgt c k) c h := by
    rw [← bigSep_revK fun k => pH (tgt c k) c h]
    exact bigSep_congr fun k _ => by rw [tgt_rev]
  rw [hr]
  refine hj.trans ?_
  iintro ⟨%g, %hg, Hg⟩
  iexists g
  isplitr
  · ipureintro
    intro i hi
    exact (hg i).trans (congrFun (if_neg hi) i)
  iexact Hg

/-! ## The state between layers -/

/-- A device's holdings on entering layer `l`: its reduced slot and hidden activations of whatever contents, the rights
    to its peers' receive slots, and its positions at the transfer cells. -/
def St (l : ℕ) (c : Dev nD) : sProp 𝕄 :=
  iprop((∃ f, pD fullShare c f) ∗ (∃ f, ℓH c ↦{fullShare} f) ∗ (bigSep Finset.univ fun k : Fin 7 => rightR l c k)
    ∗ (bigSep Finset.univ fun k : Fin 7 => atPos ER (cell c (sa k)) l ∅ 0) ∗ (bigSep Finset.univ fun k : Fin 7 => atPos ER (cell c (ra k)) l ∅ 0)
    ∗ (bigSep Finset.univ fun k : Fin 7 => atPos ER (cell c (sb k)) l ∅ 0) ∗ (bigSep Finset.univ fun k : Fin 7 => atPos ER (cell c (rb k)) l ∅ 0)
    ∗ (bigSep Finset.univ fun k : Fin 7 => reached ER (cell c (sa k)) l) ∗ (bigSep Finset.univ fun k : Fin 7 => reached ER (cell c (sb k)) l)
    ∗ (bigSep Finset.univ fun k : Fin 7 => reached ER (cell c (rb k)) l))

/-- What a device spends in layer `l`: the tokens of its sends and the credits of its receives. -/
def deal (l : ℕ) (c : Dev nD) : sProp 𝕄 :=
  iprop((bigSep Finset.univ fun k : Fin 7 => dutyTok ER (cell c (sa k)) l 0) ∗ (bigSep Finset.univ fun k : Fin 7 => dutyTok ER (cell (tgt c k) (ra k)) l 0)
    ∗ (bigSep Finset.univ fun k : Fin 7 => dutyTok ER (cell c (sb k)) l 0) ∗ (bigSep Finset.univ fun k : Fin 7 => dutyTok ER (cell (tgt c k) (rb k)) l 0)
    ∗ (bigSep Finset.univ fun k : Fin 7 => cred (tallyAt (cell c (ra k)) l N)) ∗ (bigSep Finset.univ fun k : Fin 7 => cred (tallyAt (cell c (rb k)) l N)))

/-- The origin of a rank-2 array. -/
theorem hz2 : (![0, 0] : Fin 2 → Nat) = fun _ => 0 := funext fun a => by fin_cases a <;> rfl
/-- The origin of a rank-3 array. -/
theorem hz3 : (![0, 0, 0] : Fin 3 → Nat) = fun _ => 0 := funext fun a => by fin_cases a <;> rfl

section
variable (I : Inp F) (K : Dev nD × CI → ℕ) (c : Dev nD) (Q : PUnit → sProp (MT nD τ sig ℕ (Elt F) ℕ UU ℕ))

/-- The rectified sum stored over whatever the buffer held. -/
theorem wp_red (a : FVec F S64x128 .f32) (f : Buf (Elt F) (ℓD c)) (κ : Pg (F := F)) :
    (pD fullShare c f) ⊢ iprop(((pD fullShare c (rectS a)) -∗ WP c κ Q) -∗ WP c (stRed a κ) Q) := by
  unfold stRed pD
  iintro HD Hk
  iapply (wp_load 𝒱₀ (c : Thread nD τ) none Set.univ (m := mD) (Finset.subset_univ _)) $$ HD
  iintro HD
  iapply (wp_store 𝒱₀ (c : Thread nD τ) none Set.univ (m := mD) (r := r2) (Mk := Finset.univ) (Finset.subset_univ _)) $$ HD
  rw [show (mD.access r2).write (Elt F) f (rectS a) Finset.univ = rectS a from Memref.write_access_unit_zero_univ (Elt F) cc0_scratch3 hz2 _ f (rectS a)]
  iintro HD
  iapply Hk
  iexact HD

/-- A layer. -/
theorem wp_layer {l : ℕ} (hl : l < 3) (fw : Buf (Elt F) ((mO l).view.loc (c : Thread nD τ)))
    (hw : (mO l).view.readAt (Elt F) rO.toLoadRect fw = I.wo l c) (κ : FVec F S64x512 .f32 → Pg (F := F)) :
    iprop(recs I K ∗ ow c (itemsFrom l) ∗ (ℓA c ↦{fullShare} (PB I l c)) ∗ St l c ∗ deal l c ∗ ((mO l).view.loc (c : Thread nD τ) ↦{fullShare} fw))
      ⊢ iprop(((ow c (itemsFrom (l + 1)) ∗ (∃ f, ℓA c ↦{fullShare} f) ∗ St (l + 1) c ∗ ((mO l).view.loc (c : Thread nD τ) ↦{fullShare} fw))
            -∗ WP c (κ (acts I (l + 1) c)) Q)
          -∗ WP c (stLayer (placeAt c) l (acts I l c) (I.wi l c) κ) Q) := by
  rw [itemsFrom_succ hl, aroundA c (PB I l c)]
  unfold St deal stLayer
  iintro ⟨#HR, HO, ⟨HAo, HAs⟩, ⟨⟨%fd, HD⟩, ⟨%fh, HH⟩, Hrt, Hsa, Hra, Hsb, Hrb, Rsa, Rsb, Rrb⟩, ⟨Tsa, Tra, Tsb, Trb, Cra, Crb⟩, HW⟩ Hk
  ihave HH2 := (Entails.of_eq (aroundH c fh)) $$ HH
  icases HH2 with ⟨HHo, HHs⟩
  ihave HHs2 := (any_hid c fh) $$ HHs
  ihave Rrb2 := (Entails.of_eq (bigSep_revK fun k => reached ER (cell c (rb k)) l).symm) $$ Rrb
  iapply (ph_sendA I K c Q hl _ _) $$ [HO HAs Hrt HHs2 Rrb2 Rsa Tsa Tra]
  · isplitr; · iexact HR
    isplitl [HO]; · iexact HO
    isplitl [HAs]; · iexact HAs
    isplitl [Hrt]; · iexact Hrt
    isplitl [HHs2]; · iexact HHs2
    isplitl [Rrb2]; · iexact Rrb2
    isplitl [Rsa]; · iexact Rsa
    isplitl [Tsa]; · iexact Tsa
    iexact Tra
  iintro ⟨HO, Csa⟩
  iapply (ph_recvA I K c Q hl _ (fun k => above_ra ⟨l, hl⟩ k) _ _) $$ [HO Cra Hra]
  · isplitr; · iexact HR
    isplitl [HO]; · iexact HO
    isplitl [Cra]; · iexact Cra
    iexact Hra
  iintro ⟨HO, Hra, Rra, HRs, HHp, Rrp⟩
  ihave Hg := (give_hand I l c) $$ [HRs Rra]
  · isplitl [HRs] <;> iassumption
  icases Hg with ⟨Hhand, Hkeep⟩
  iapply (wp_red c Q _ fd _) $$ HD
  iintro HD
  ihave HD2 := (Entails.of_eq (dealD c (RS I l c))) $$ [HD]
  · iexact HD
  icases HD2 with ⟨HDs, HDr⟩
  ihave HHp2 := (Entails.of_eq ((bigSep_congr fun k _ => by rw [← tgt_rev]).trans
    (bigSep_revK fun k => iprop(∃ f, pH c (tgt c k) f)))) $$ HHp
  ihave Rrp2 := (Entails.of_eq ((bigSep_congr fun k _ => by rw [← tgt_rev]).trans
    (bigSep_revK fun k => reached ER (cell (tgt c k) (rb k)) l))) $$ Rrp
  iapply (ph_sendB I K c Q hl _ _) $$ [HO HDs HHp2 Rrp2 Hhand Rsb Tsb Trb]
  · isplitr; · iexact HR
    isplitl [HO]; · iexact HO
    isplitl [HDs]; · iexact HDs
    isplitl [HHp2]; · iexact HHp2
    isplitl [Rrp2]; · iexact Rrp2
    isplitl [Hhand]; · iexact Hhand
    isplitl [Rsb]; · iexact Rsb
    isplitl [Tsb]; · iexact Tsb
    iexact Trb
  iintro ⟨HO, Csb⟩
  iapply (ph_waits I K c Q 3 _ (stRecvB (placeAt c)) (fun k κ =>
    wp_wait I K c Q hl (3, k) _ (recvB k) rfl (above_rb ⟨l, hl⟩ k) mD (slot8 mH (placeAt c).ha) _ _ (credit_h c k) fun _ => κ) _) $$ [HO Crb Hrb]
  · isplitr; · iexact HR
    isplitl [HO]; · iexact HO
    isplitl [Crb]; · iexact Crb
    iexact Hrb
  have hp : (bigSep Finset.univ fun k : Fin 7 => pay I c (some (3, k)) l 0)
      = iprop((bigSep Finset.univ fun k : Fin 7 => pH (src c k) c (HB I l)) ∗ bigSep Finset.univ fun k : Fin 7 => hand l (src c k) k) :=
    bigSep_sep' ..
  rw [hp]
  iintro ⟨HO, Hrb, Rrb, HHs, Hhand⟩
  ihave Hrt := (take_hand l c) $$ [Hhand Hkeep]
  · isplitl [Hhand] <;> iassumption
  ihave HJ := (joinOwn c fh (HB I l)) $$ [HHo HHs]
  · isplitl [HHo] <;> iassumption
  icases HJ with ⟨%g, %hg, HH⟩
  iapply (wp_load 𝒱₀ (c : Thread nD τ) none Set.univ (m := mH) (Finset.subset_univ _)) $$ HH
  iintro HH
  iapply (wp_load 𝒱₀ (c : Thread nD τ) none Set.univ (m := mO l) (Finset.subset_univ _)) $$ HW
  iintro HW
  iapply (ph_waits I K c Q 0 _ (stDoneA (placeAt c)) (fun k κ =>
    wp_wait I K c Q hl (0, k) _ (sendA k) rfl (above_sa ⟨l, hl⟩ k) (rSlot k) (slot8 mA ((placeAt c).pa k)) _ _ rfl fun _ => κ) _) $$ [HO Csa Hsa]
  · isplitr; · iexact HR
    isplitl [HO]; · iexact HO
    isplitl [Csa]; · iexact Csa
    iexact Hsa
  iintro ⟨HO, Hsa, Rsa, HAs⟩
  iapply (ph_waits I K c Q 2 _ (stDoneB (placeAt c)) (fun k κ =>
    wp_wait I K c Q hl (2, k) _ (sendB k) rfl (above_sb ⟨l, hl⟩ k) (slot8 mH (placeAt c).ha) mD _ _ rfl fun _ => κ) _) $$ [HO Csb Hsb]
  · isplitr; · iexact HR
    isplitl [HO]; · iexact HO
    isplitl [Csb]; · iexact Csb
    iexact Hsb
  iintro ⟨HO, Hsb, Rsb, HDs⟩
  ihave HA := (Entails.of_eq (aroundA c (PB I l c)).symm) $$ [HAo HAs]
  · isplitl [HAo]; · iexact HAo
    iexact HAs
  ihave HD := (Entails.of_eq (dealD c (RS I l c)).symm) $$ [HDs HDr]
  · isplitl [HDs]; · iexact HDs
    iexact HDr
  have hv : nxt (placeAt c).mask (rect (accFold (recvAt (PB I l) c) seven (accOwn (placeAt c).mask (prt (acts I l c) (I.wi l c)))))
      (mH.view.readAt (Elt F) r8.toLoadRect g) ((mO l).view.readAt (Elt F) rO.toLoadRect fw) = acts I (l + 1) c := by
    rw [hw]
    refine nxt_own c _ _ _ _ fun i hi => ?_
    rw [show mH.view.readAt (Elt F) r8.toLoadRect g = g from Memref.readAt_unit_zero (Elt F) cc0_scratch2 hz3 _ g,
      show mH.view.readAt (Elt F) r8.toLoadRect (hidOf (accOf (acts I l) (I.wi l))) = HB I l from Memref.readAt_unit_zero (Elt F) cc0_scratch2 hz3 _ _]
    exact hg i hi
  rw [hv]
  iapply Hk
  isplitl [HO]; · iexact HO
  isplitl [HA]; · iexists _; iexact HA
  isplitr [HW]
  · isplitl [HD]; · iexists _; iexact HD
    isplitl [HH]; · iexists _; iexact HH
    isplitl [Hrt]; · iexact Hrt
    isplitl [Hsa]; · iexact Hsa
    isplitl [Hra]; · iexact Hra
    isplitl [Hsb]; · iexact Hsb
    isplitl [Hrb]; · iexact Hrb
    isplitl [Rsa]; · iexact Rsa
    isplitl [Rsb]; · iexact Rsb
    iexact Rrb
  iexact HW

end

end Cert.Mlp

end
-- ==== Proof.Body.lean ====
/-
The body, at a symbolic device: the barrier's signals and wait, the three layers, the result, and the cells closed.
-/
module

public import proofs.«01_k».proof.Proof.Pass

@[expose] public section

noncomputable section

namespace Cert.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 eq_ix2 eq_ix3)

variable {F : FTy → Type} [FloatOps F]

local notation "𝕄" => MT nD τ sig ℕ (Elt F) ℕ UU ℕ

/-- A persistent fact beside a separating conjunction may be used for every member of it. -/
theorem with_persistent {T : Type} [DecidableEq T] {S : Finset T} {R : sProp 𝕄} [BI.Persistent R] {Φ Ψ : T → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The counters of a device's cells at zero. -/
def zeros (c : Dev nD) : sProp 𝕄 :=
  iprop(semVal (cell c bar) 0 ∗ (bigSep Finset.univ fun k : Fin 7 => semVal (cell c (sa k)) 0) ∗ (bigSep Finset.univ fun k : Fin 7 => semVal (cell c (ra k)) 0)
    ∗ (bigSep Finset.univ fun k : Fin 7 => semVal (cell c (sb k)) 0) ∗ (bigSep Finset.univ fun k : Fin 7 => semVal (cell c (rb k)) 0))

/-- A device's positions at its transfer cells. -/
def poss (l : ℕ) (c : Dev nD) : sProp 𝕄 :=
  iprop((bigSep Finset.univ fun k : Fin 7 => atPos ER (cell c (sa k)) l ∅ 0) ∗ (bigSep Finset.univ fun k : Fin 7 => atPos ER (cell c (ra k)) l ∅ 0)
    ∗ (bigSep Finset.univ fun k : Fin 7 => atPos ER (cell c (sb k)) l ∅ 0) ∗ (bigSep Finset.univ fun k : Fin 7 => atPos ER (cell c (rb k)) l ∅ 0))

/-- The whole receive buffer is the slots, each to be handed to the device that sends into it. -/
theorem open_recv (c : Dev nD) (f : Buf (Elt F) (ℓR c)) :
    (ℓR c ↦{fullShare} f) ⊢ (bigSep Finset.univ fun k : Fin 7 => iprop(∃ f, pR (rev k) c f) : sProp 𝕄) := by
  rw [splitR, bigSep_revK fun k => iprop(∃ f, pR k c f)]
  exact any_slot c fun _ => f

section
variable (I : Inp F) (K : Dev nD × CI → ℕ) (c : Dev nD) (Q : PUnit → sProp (MT nD τ sig ℕ (Elt F) ℕ UU ℕ))

/-- After its three rounds every transfer cell of one kind gives its counter back, at zero. -/
theorem close_xfer (j : Fin 4) :
    iprop(recs I K ∗ bigSep Finset.univ fun k : Fin 7 => atPos ER (cell c (some (j, k))) 3 ∅ 0)
      ⊢ |={Set.univ}=> (bigSep Finset.univ fun k : Fin 7 => semVal (cell c (some (j, k))) 0 : sProp 𝕄) := by
  refine (with_persistent (Ψ := fun k : Fin 7 => iprop(|={Set.univ}=> semVal (cell c (some (j, k))) 0)) fun k _ => ?_).trans (bigSep_fupd _ _)
  iintro ⟨HR, Hat⟩
  ihave HI := (recs_inv I K c (some (j, k))) $$ HR
  iapply (Rounds.cell_close ER (Rd I) (Set.mem_univ (K (c, some (j, k)))) (fun h => h) (R := 3) (duties_xfer_later I c (j, k)))
  isplitl [HI] <;> iassumption

/-- The body over, every cell is closed and its counter is zero. -/
theorem close_all :
    iprop(recs I K ∗ atPos ER (cell c bar) 1 ∅ 0 ∗ poss 3 c) ⊢ |={Set.univ}=> (zeros c : sProp 𝕄) := by
  unfold poss zeros
  iintro ⟨#HR, Hb, H0, H1, H2, H3⟩
  ihave #HI := (recs_inv I K c bar) $$ HR
  imod (Rounds.cell_close ER (Rd I) (Set.mem_univ (K (c, bar))) (fun h => h) (R := 1) (duties_bar_later I c)) $$ [Hb] with Hb
  · isplitr; · iexact HI
    iexact Hb
  imod (close_xfer I K c 0) $$ [H0] with H0
  · isplitr; · iexact HR
    iexact H0
  imod (close_xfer I K c 1) $$ [H1] with H1
  · isplitr; · iexact HR
    iexact H1
  imod (close_xfer I K c 2) $$ [H2] with H2
  · isplitr; · iexact HR
    iexact H2
  imod (close_xfer I K c 3) $$ [H3] with H3
  · isplitr; · iexact HR
    iexact H3
  imodintro
  isplitl [Hb]; · iexact Hb
  isplitl [H0]; · iexact H0
  isplitl [H1]; · iexact H1
  isplitl [H2]; · iexact H2
  iexact H3

/-- One signal of the barrier: the device's receive slot for that peer's messages goes with it. -/
theorem wp_sig (k : Fin 7) (xs : List Item) (κ : Pg (F := F)) :
    iprop(recs I K ∗ ow c (barItem k :: xs) ∗ (∃ f, pR (rev k) c f) ∗ dutyTok ER (cell (tgt c k) bar) 0 k)
      ⊢ iprop((ow c xs -∗ WP c κ Q) -∗ WP c (stSig (placeAt c) k κ) Q) := by
  unfold ow stSig
  iintro ⟨#HR, ⟨%W, HO⟩, Hs, Ht⟩
  iintro Hk
  ihave #HI := (recs_inv I K (tgt c k) bar) $$ HR
  ihave #Hr := (recs_reached I K (tgt c k) bar) $$ HR
  ihave #Hr' := (recs_reached I K c (ra (rev k))) $$ HR
  iapply (Rounds.wp_signal 𝒱₀ ER (Rd I) (c : Thread nD τ) none (dst := (tgt c k : Thread nD τ)) (κ := K (tgt c k, bar))
      (d := k) (by show k ∈ (Rd I).duties (cell (tgt c k) bar) 0; rw [duties_bar]; exact Finset.mem_univ _) ((amount_cell I (tgt c k) bar 0 k).trans (by decide)) 0 (due c xs) rfl)
    $$ [HO Hs Ht]
  · isplitr; · iexact HI
    isplitl [HO]; · iexact HO
    isplitl [Ht]; · iexact Ht
    isplitl [Hs]
    · rw [show (Rd I).payload ((tgt c k : Thread nD τ), SemLoc.reg barS) 0 k = iprop((∃ f, pR (rev k) c f) ∗ reached ER (cell c (ra (rev k))) 0) from
        (payload_cell I (tgt c k) bar 0 k).trans (by rw [pay_bar, src_tgt])]
      isplitl [Hs]; · iexact Hs
      iexact Hr'
    iexact Hr
  iintro HO
  iapply Hk
  iexists W; iexact HO

/-- The seven signals. -/
theorem ph_sig (xs : List Item) (κ : Pg (F := F)) :
    iprop(recs I K ∗ ow c (seven.map barItem ++ xs) ∗ (bigSep Finset.univ fun k : Fin 7 => iprop(∃ f, pR (rev k) c f))
        ∗ (bigSep Finset.univ fun k : Fin 7 => dutyTok ER (cell (tgt c k) bar) 0 k))
      ⊢ iprop((ow c xs -∗ WP c κ Q) -∗ WP c (seqK (stSig (placeAt c)) seven κ) Q) := by
  have h := wp_seq c Q (fun ks => iprop(recs I K ∗ ow c (ks.map barItem ++ xs)))
    (fun k => iprop((∃ f, pR (rev k) c f) ∗ dutyTok ER (cell (tgt c k) bar) 0 k)) (fun k => iprop(emp)) (stSig (placeAt c))
    (fun k ks κ => by
      iintro ⟨⟨#HR, HO⟩, HA⟩ Hk
      iapply (wp_sig I K c Q k (ks.map barItem ++ xs) κ) $$ [HO HA]
      · isplitr; · iexact HR
        isplitl [HO]; · iexact HO
        iexact HA
      iintro HO
      iapply Hk
      isplitl
      · isplitr; · iexact HR
        iexact HO
      iempintro) seven κ
  rw [bigL_seven, bigL_seven] at h
  simp only [bigSep_sep'] at h
  iintro ⟨#HR, HO, HA⟩ Hk
  iapply h $$ [HO HA]
  · isplitl [HO]
    · isplitr; · iexact HR
      iexact HO
    iexact HA
  iintro ⟨⟨-, HO⟩, -⟩
  iapply Hk
  iexact HO

/-- The wait for the seven others: the right to write their receive slots comes with it. -/
theorem wp_bar (κ : Pg (F := F)) :
    iprop(recs I K ∗ ow c (itemsFrom 0) ∗ cred (tallyAt (cell c bar) 0 7) ∗ atPos ER (cell c bar) 0 ∅ 0)
      ⊢ iprop(((ow c (itemsFrom 0) ∗ atPos ER (cell c bar) 1 ∅ 0 ∗ bigSep Finset.univ fun k : Fin 7 => rightR 0 c k) -∗ WP c κ Q) -∗ WP c (stBar κ) Q) := by
  unfold ow stBar
  iintro ⟨#HR, ⟨%W, HO⟩, Hc, Hat⟩
  iintro Hk
  ihave #HI := (recs_inv I K c bar) $$ HR
  ihave #HL := (recs_lev I K) $$ HR
  have hm := mayWait_due (F := F) c (csem bar) (r := 0) (by omega) (itemsFrom 0) above_bar
  iapply (Rounds.wp_wait_rest_token 𝒱₀ ER (Rd I) (c : Thread nD τ) none (κ := K (c, bar))
      (wpE_semWait_eq 𝒱₀ (c : Thread nD τ) none Set.univ) (Set.mem_univ _) 0 (O := due c (itemsFrom 0)) (W := W) (R := 0) (m := 0) (T := ∅)
      (by rw [show (Rd I).expect ((c : Thread nD τ), SemLoc.reg barS) 0 = 7 from expect_bar I c]; decide)) $$ [Hc HO Hat]
  · isplitr; · iexact HI
    isplitl [Hc]; · iexact Hc
    isplitl [HO]; · iexact HO
    isplitr; · iapply hm; iexact HL
    iexact Hat
  iintro ⟨HO, Hat, -, Hpay⟩
  have hrest : bigSep ((Rd I).duties ((c : Thread nD τ), SemLoc.reg barS) 0 \ ∅) (fun d => (Rd I).payload ((c : Thread nD τ), SemLoc.reg barS) 0 d)
      = bigSep Finset.univ fun d => pay I c bar 0 d := rest_bar I c
  ihave Hp := (Entails.of_eq hrest) $$ Hpay
  have hright : (bigSep Finset.univ fun d : Fin 7 => pay I c bar 0 d) = bigSep Finset.univ fun k : Fin 7 => rightR 0 c k := by
    rw [← bigSep_revK fun k => rightR 0 c k]
    refine bigSep_congr fun k _ => ?_
    rw [pay_bar, rightR, if_pos (by omega), tgt_rev]
  ihave Hp' := (Entails.of_eq hright) $$ Hp
  iapply Hk
  isplitl [HO]; · iexists _; iexact HO
  isplitl [Hat]; · iexact Hat
  iexact Hp'

/-- A layer's product: the weight read, the rounded product stored. -/
theorem wp_prod {l : ℕ} (fa : Buf (Elt F) (ℓA c)) (fw : Buf (Elt F) ((mI l).view.loc (c : Thread nD τ)))
    (hw : (mI l).view.readAt (Elt F) rI.toLoadRect fw = I.wi l c) (κ : FVec F S512x1024 .f32 → Pg (F := F)) :
    iprop((ℓA c ↦{fullShare} fa) ∗ ((mI l).view.loc (c : Thread nD τ) ↦{fullShare} fw))
      ⊢ iprop((((ℓA c ↦{fullShare} (PB I l c)) ∗ ((mI l).view.loc (c : Thread nD τ) ↦{fullShare} fw)) -∗ WP c (κ (I.wi l c)) Q)
          -∗ WP c (stProd l (acts I l c) κ) Q) := by
  unfold stProd
  iintro ⟨HA, HW⟩ Hk
  iapply (wp_load 𝒱₀ (c : Thread nD τ) none Set.univ (m := mI l) (Finset.subset_univ _)) $$ HW
  rw [hw]
  iintro HW
  iapply (wp_load 𝒱₀ (c : Thread nD τ) none Set.univ (m := mA) (Finset.subset_univ _)) $$ HA
  iintro HA
  iapply (wp_store 𝒱₀ (c : Thread nD τ) none Set.univ (m := mA) (r := r8) (Mk := Finset.univ) (Finset.subset_univ _)) $$ HA
  rw [show (mA.access r8).write (Elt F) fa (prtB (acts I l c) (I.wi l c)) Finset.univ = PB I l c from
    Memref.write_access_unit_zero_univ (Elt F) cc0_scratch0 hz3 _ fa _]
  iintro HA
  iapply Hk
  isplitl [HA]; · iexact HA
  iexact HW

/-- The result stored. -/
theorem wp_out (x : FVec F S64x512 .f32) (f : Buf (Elt F) (mY.view.loc (c : Thread nD τ))) :
    (mY.view.loc (c : Thread nD τ) ↦{fullShare} f)
      ⊢ iprop(((mY.view.loc (c : Thread nD τ) ↦{fullShare} x) -∗ |={Set.univ}=> Q ⟨⟩) -∗ WP c (stOut x) Q) := by
  unfold stOut
  iintro HY Hk
  iapply (wp_load 𝒱₀ (c : Thread nD τ) none Set.univ (m := mY) (Finset.subset_univ _)) $$ HY
  iintro HY
  iapply (wp_store 𝒱₀ (c : Thread nD τ) none Set.univ (m := mY) (r := rX) (Mk := Finset.univ) (Finset.subset_univ _)) $$ HY
  rw [show (mY.access rX).write (Elt F) f x Finset.univ = x from Memref.write_access_unit_zero_univ (Elt F) cc0_stg7_0 hz2 _ f x]
  iintro HY
  rw [wp_ret]
  iapply Hk
  iexact HY

/-- The staged weights. -/
def weights (fi : (l : ℕ) → Buf (Elt F) ((mI l).view.loc (c : Thread nD τ))) (fo : (l : ℕ) → Buf (Elt F) ((mO l).view.loc (c : Thread nD τ))) (l : ℕ) : sProp 𝕄 :=
  iprop(((mI l).view.loc (c : Thread nD τ) ↦{fullShare} fi l) ∗ ((mO l).view.loc (c : Thread nD τ) ↦{fullShare} fo l))

/-- The scratch buffers of whatever contents. -/
def scratch : sProp 𝕄 :=
  iprop((∃ f : Buf (Elt F) (ℓA c), ℓA c ↦{fullShare} f) ∗ (∃ f : Buf (Elt F) (ℓR c), ℓR c ↦{fullShare} f)
    ∗ (∃ f : Buf (Elt F) (ℓH c), ℓH c ↦{fullShare} f) ∗ (∃ f : Buf (Elt F) (ℓD c), ℓD c ↦{fullShare} f))

/-- What the protocol deals a device: its positions, the tokens of its signals, the barrier's credit, each layer's deal. -/
def dealt : sProp 𝕄 :=
  iprop(atPos ER (cell c bar) 0 ∅ 0 ∗ poss 0 c ∗ (bigSep Finset.univ fun k : Fin 7 => dutyTok ER (cell (tgt c k) bar) 0 k)
    ∗ cred (tallyAt (cell c bar) 0 7) ∗ deal 0 c ∗ deal 1 c ∗ deal 2 c)

/-- Every cell of an array has reached round 0. -/
theorem recs_zero (j : Fin 4) : recs I K ⊢ (bigSep Finset.univ fun k : Fin 7 => reached ER (cell c (some (j, k))) 0 : sProp 𝕄) :=
  (BI.bigSep_of_persistent Finset.univ (recs I K)).trans (bigSep_mono fun k _ => recs_reached I K c (some (j, k)))

/-- The body. -/
theorem wp_prog (fx : Buf (Elt F) (mX.view.loc (c : Thread nD τ))) (hx : mX.view.readAt (Elt F) rX.toLoadRect fx = I.x c)
    (fi : (l : ℕ) → Buf (Elt F) ((mI l).view.loc (c : Thread nD τ))) (hi : ∀ l, (mI l).view.readAt (Elt F) rI.toLoadRect (fi l) = I.wi l c)
    (fo : (l : ℕ) → Buf (Elt F) ((mO l).view.loc (c : Thread nD τ))) (ho : ∀ l, (mO l).view.readAt (Elt F) rO.toLoadRect (fo l) = I.wo l c)
    (fy : Buf (Elt F) (mY.view.loc (c : Thread nD τ))) :
    iprop(recs I K ∗ ow c itemsAll ∗ scratch c ∗ dealt c ∗ (mX.view.loc (c : Thread nD τ) ↦{fullShare} fx)
        ∗ weights c fi fo 0 ∗ weights c fi fo 1 ∗ weights c fi fo 2 ∗ (mY.view.loc (c : Thread nD τ) ↦{fullShare} fy))
      ⊢ iprop(((ow c [] ∗ scratch c ∗ zeros c ∗ (mX.view.loc (c : Thread nD τ) ↦{fullShare} fx)
            ∗ weights c fi fo 0 ∗ weights c fi fo 1 ∗ weights c fi fo 2 ∗ (mY.view.loc (c : Thread nD τ) ↦{fullShare} (acts I 3 c))) -∗ Q ⟨⟩)
          -∗ WP c (prog (placeAt c)) Q) := by
  unfold scratch dealt poss weights prog
  iintro ⟨#HR, HO, ⟨⟨%fa, HA⟩, ⟨%fr, HRb⟩, HH, HD⟩, ⟨Hb, ⟨P0, P1, P2, P3⟩, Tb, Cb, D0, D1, D2⟩, HX, ⟨I0, O0⟩, ⟨I1, O1⟩, ⟨I2, O2⟩, HY⟩ Hk
  ihave HS := (open_recv c fr) $$ HRb
  iapply (ph_sig I K c Q (itemsFrom 0) _) $$ [HO HS Tb]
  · isplitr; · iexact HR
    isplitl [HO]; · iexact HO
    isplitl [HS]; · iexact HS
    iexact Tb
  iintro HO
  iapply (wp_load 𝒱₀ (c : Thread nD τ) none Set.univ (m := mX) (Finset.subset_univ _)) $$ HX
  rw [hx]
  iintro HX
  iapply (wp_prod I c Q (l := 0) fa (fi 0) (hi 0) _) $$ [HA I0]
  · isplitl [HA] <;> iassumption
  iintro ⟨HA, I0⟩
  iapply (wp_bar I K c Q _) $$ [HO Cb Hb]
  · isplitr; · iexact HR
    isplitl [HO]; · iexact HO
    isplitl [Cb]; · iexact Cb
    iexact Hb
  iintro ⟨HO, Hb, Hrt⟩
  ihave #R0 := (recs_zero I K c 0) $$ HR
  ihave #R2 := (recs_zero I K c 2) $$ HR
  ihave #R3 := (recs_zero I K c 3) $$ HR
  iapply (wp_layer I K c Q (l := 0) (by omega) (fo 0) (ho 0) _) $$ [HO HA HD HH Hrt P0 P1 P2 P3 D0 O0]
  · isplitr; · iexact HR
    isplitl [HO]; · iexact HO
    isplitl [HA]; · iexact HA
    isplitr [D0 O0]
    · unfold St
      isplitl [HD]; · unfold pD; iexact HD
      isplitl [HH]; · iexact HH
      isplitl [Hrt]; · iexact Hrt
      isplitl [P0]; · iexact P0
      isplitl [P1]; · iexact P1
      isplitl [P2]; · iexact P2
      isplitl [P3]; · iexact P3
      isplitr; · iexact R0
      isplitr; · iexact R2
      iexact R3
    isplitl [D0]; · iexact D0
    iexact O0
  iintro ⟨HO, ⟨%fa1, HA⟩, HSt, O0⟩
  iapply (wp_prod I c Q (l := 1) fa1 (fi 1) (hi 1) _) $$ [HA I1]
  · isplitl [HA] <;> iassumption
  iintro ⟨HA, I1⟩
  iapply (wp_layer I K c Q (l := 1) (by omega) (fo 1) (ho 1) _) $$ [HO HA HSt D1 O1]
  · isplitr; · iexact HR
    isplitl [HO]; · iexact HO
    isplitl [HA]; · iexact HA
    isplitl [HSt]; · iexact HSt
    isplitl [D1]; · iexact D1
    iexact O1
  iintro ⟨HO, ⟨%fa2, HA⟩, HSt, O1⟩
  iapply (wp_prod I c Q (l := 2) fa2 (fi 2) (hi 2) _) $$ [HA I2]
  · isplitl [HA] <;> iassumption
  iintro ⟨HA, I2⟩
  iapply (wp_layer I K c Q (l := 2) (by omega) (fo 2) (ho 2) _) $$ [HO HA HSt D2 O2]
  · isplitr; · iexact HR
    isplitl [HO]; · iexact HO
    isplitl [HA]; · iexact HA
    isplitl [HSt]; · iexact HSt
    isplitl [D2]; · iexact D2
    iexact O2
  iintro ⟨HO, HA, HSt, O2⟩
  iapply (wp_out c Q _ fy) $$ HY
  iintro HY
  unfold St
  icases HSt with ⟨HD, HH, Hrt, P0, P1, P2, P3, -⟩
  imod (close_all I K c) $$ [Hb P0 P1 P2 P3] with HZ
  · isplitr; · iexact HR
    isplitl [Hb]; · iexact Hb
    unfold poss
    isplitl [P0]; · iexact P0
    isplitl [P1]; · iexact P1
    isplitl [P2]; · iexact P2
    iexact P3
  have hr : (bigSep Finset.univ fun k : Fin 7 => rightR 3 c k) = (bigSep Finset.univ fun k : Fin 7 => iprop(∃ f, pR k c f) : sProp 𝕄) :=
    bigSep_congr fun k _ => if_neg (by omega)
  ihave Hrt' := (Entails.of_eq hr) $$ Hrt
  ihave HRb := (joinR (F := F) c) $$ Hrt'
  imodintro
  iapply Hk
  isplitl [HO]; · iexact HO
  isplitl [HA HRb HH HD]
  · isplitl [HA]; · iexact HA
    isplitl [HRb]; · iexact HRb
    isplitl [HH]; · iexact HH
    unfold pD; iexact HD
  isplitl [HZ]; · iexact HZ
  isplitl [HX]; · iexact HX
  isplitl [I0 O0]; · isplitl [I0] <;> iassumption
  isplitl [I1 O1]; · isplitl [I1] <;> iassumption
  isplitl [I2 O2]; · isplitl [I2] <;> iassumption
  iexact HY

end

end Cert.Mlp

end
-- ==== Proof.Credits.lean ====
/-
What the launch deals the devices: the credits of the payments they are owed, and the tokens of the payments they make.
-/
module

public import proofs.«01_k».proof.Proof.Body

@[expose] public section

noncomputable section

namespace Cert.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 eq_ix2 eq_ix3)

variable {F : FTy → Type} [FloatOps F]

local notation "𝕄" => MT nD τ sig ℕ (Elt F) ℕ UU ℕ

/-! ## Conjunctions over a device's cells -/

/-- A conjunction over four is the four written out. -/
theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ
/-- A conjunction over three is the three written out. -/
theorem bigSep_three (Φ : Fin 3 → sProp 𝕄) : bigSep Finset.univ Φ = iprop(Φ 0 ∗ Φ 1 ∗ Φ 2) :=
  bigSep_univ_eq_bigSepL [0, 1, 2] (by decide) (by decide) Φ

/-- A conjunction over an optional index is the part without and the rest. -/
theorem bigSep_opt {T : Type} [Fintype T] [DecidableEq T] (Φ : Option T → sProp 𝕄) :
    bigSep Finset.univ Φ = iprop(Φ none ∗ bigSep Finset.univ fun t => Φ (some t)) := by
  have h : (Finset.univ : Finset (Option T)) = insert none (Finset.univ.map ⟨some, Option.some_injective T⟩) := by
    ext x; cases x <;> simp
  rw [h, bigSep_insert (by simp), bigSep_map]; rfl

/-- A conjunction over a device's transfer cells, array by array; and over all its cells. -/
theorem bigSep_xfer (Φ : Fin 4 × Fin 7 → sProp 𝕄) :
    bigSep Finset.univ Φ = iprop((bigSep Finset.univ fun k : Fin 7 => Φ (0, k)) ∗ (bigSep Finset.univ fun k : Fin 7 => Φ (1, k))
      ∗ (bigSep Finset.univ fun k : Fin 7 => Φ (2, k)) ∗ bigSep Finset.univ fun k : Fin 7 => Φ (3, k)) := by
  rw [bigSep_univ_prod, bigSep_four]
/-- A conjunction over a device's cells is the barrier's and those of the four kinds of transfer cell. -/
theorem bigSep_cells (Φ : CI → sProp 𝕄) :
    bigSep Finset.univ Φ = iprop(Φ bar ∗ (bigSep Finset.univ fun k : Fin 7 => Φ (sa k)) ∗ (bigSep Finset.univ fun k : Fin 7 => Φ (ra k))
      ∗ (bigSep Finset.univ fun k : Fin 7 => Φ (sb k)) ∗ bigSep Finset.univ fun k : Fin 7 => Φ (rb k)) := by
  rw [bigSep_opt, bigSep_xfer]

/-! ## The credits -/

/-- What device `d` owes device `c`'s cell `ci` in round `u`: so much for each of its payments there. -/
theorem due_apply (d c : Dev nD) (ci : CI) (u : ℕ) : ∀ xs : List Item,
    due d xs (cell c ci) u = ((xs.filter fun x => x.1 = ci ∧ x.2.2 = u).map fun x => if tgt d x.2.1 = c then amt x.1 else 0).sum
  | [] => rfl
  | x :: xs => by
      unfold due
      rw [Pi.add_apply, Finsupp.add_apply, tallyAt_apply, due_apply d c ci u xs, List.filter_cons]
      by_cases h : x.1 = ci ∧ x.2.2 = u
      · rw [if_pos (c := (decide (x.1 = ci ∧ x.2.2 = u) = true)) (decide_eq_true h), List.map_cons, List.sum_cons, Nat.add_comm]
        congr 1
        by_cases hc : tgt d x.2.1 = c
        · rw [if_pos hc]; exact if_pos ⟨by rw [hc, h.1], h.2.symm⟩
        · rw [if_neg hc]; exact if_neg fun h' => hc (cell_inj h'.1).1.symm
      · rw [if_neg (c := (decide (x.1 = ci ∧ x.2.2 = u) = true)) (by simpa using h)]
        have hz : (if cell c ci = cell (tgt d x.2.1) x.1 ∧ u = x.2.2 then amt x.1 else 0) = 0 :=
          if_neg fun h' => h ⟨(cell_inj h'.1).2.symm, h'.2.symm⟩
        exact (congrArg _ hz).trans (Nat.add_zero _)

/-- The payments to the barrier are the seven signals. -/
theorem items_bar : itemsAll.filter (fun x => x.1 = bar ∧ x.2.2 = 0) = seven.map barItem := by decide +kernel
/-- One payment goes to receive cell `k` of the first exchange in a layer. -/
theorem items_ra : ∀ l : Fin 3, ∀ k : Fin 7, itemsAll.filter (fun x => x.1 = ra k ∧ x.2.2 = l.val) = [aItem l k] := by decide +kernel
/-- One payment goes to receive cell `k` of the second exchange in a layer. -/
theorem items_rb : ∀ l : Fin 3, ∀ k : Fin 7, itemsAll.filter (fun x => x.1 = rb k ∧ x.2.2 = l.val) = [bItem l k] := by decide +kernel
/-- The barrier is paid in round 0 only. -/
theorem items_bar_round : ∀ x ∈ itemsAll, x.1 = bar → x.2.2 = 0 := by decide +kernel

/-- Every device has one peer for which it is the `k`th. -/
theorem one_src (c : Dev nD) (k : Fin 7) (n : ℕ) : (∑ d : Dev nD, if tgt d k = c then n else 0) = n := by
  rw [Finset.sum_congr rfl fun d _ => show (if tgt d k = c then n else 0) = if d = src c k then n else 0 from
    if_congr ⟨fun h => by rw [← h, src_tgt], fun h => by rw [h, tgt_src]⟩ rfl rfl, Finset.sum_ite_eq' Finset.univ (src c k) fun _ => n,
    if_pos (Finset.mem_univ _)]

/-- A cell and round that no payment names is owed nothing. -/
theorem none_due (d c : Dev nD) (ci : CI) (u : ℕ) (h : ∀ x ∈ itemsAll, ¬ (x.1 = ci ∧ x.2.2 = u)) : due d itemsAll (cell c ci) u = 0 := by
  rw [due_apply, List.filter_eq_nil_iff.mpr fun x hx => by simpa using h x hx]; rfl

/-- What everybody owes. -/
def O₀ (d : Dev nD) : CellTallies nD τ sig ℕ := due d itemsAll

/-- At launch a device's barrier is owed seven units. -/
theorem launch_bar (c : Dev nD) : launchCredit (Pipeline.owing O₀) 0 (cell c bar) = Finsupp.single 0 7 := by
  refine Finsupp.ext fun u => ?_
  rw [Pipeline.launchCredit_owing]
  by_cases h : u = 0
  · subst h
    rw [Finsupp.single_eq_same, Finset.sum_congr rfl fun d _ => show O₀ d (cell c bar) 0 = ∑ k : Fin 7, (if tgt d k = c then 1 else 0) by
      unfold O₀; rw [due_apply, items_bar, Fin.sum_univ_seven]; simp only [seven, List.map_cons, List.map_nil, List.sum_cons, List.sum_nil, amt]; omega,
      Finset.sum_comm, Finset.sum_congr rfl fun k _ => one_src c k 1]; rfl
  · rw [Finsupp.single_eq_of_ne h]
    exact Finset.sum_eq_zero fun d _ => none_due d c bar u fun x hx hh => h (hh.2.symm.trans (items_bar_round x hx hh.1))

/-- A cell paid once in each of the three rounds. -/
theorem launch_xfer (c : Dev nD) (jk : Fin 4 × Fin 7) (k : Fin 7)
    (h : ∀ l : Fin 3, itemsAll.filter (fun x => x.1 = some jk ∧ x.2.2 = l.val) = [(some jk, k, l.val)]) :
    launchCredit (Pipeline.owing O₀) 0 (cell c (some jk)) = Finsupp.single 0 N + (Finsupp.single 1 N + Finsupp.single 2 N) := by
  refine Finsupp.ext fun u => ?_
  rw [Pipeline.launchCredit_owing]
  by_cases hu : u < 3
  · rw [Finset.sum_congr rfl fun d _ => show O₀ d (cell c (some jk)) u = if tgt d k = c then N else 0 by
      unfold O₀; rw [due_apply, h ⟨u, hu⟩]; simp only [List.map_cons, List.map_nil, List.sum_cons, List.sum_nil, amt, Nat.add_zero], one_src]
    simp only [Finsupp.add_apply, Finsupp.single_apply]
    interval_cases u <;> simp
  · rw [Finset.sum_eq_zero (f := fun d => (O₀ d (cell c (some jk))) u) fun d _ => none_due d c _ u fun x hx hh => hu (hh.2 ▸ (above_all x hx).1)]
    simp only [Finsupp.add_apply, Finsupp.single_apply]
    rw [if_neg (by omega), if_neg (by omega), if_neg (by omega)]; rfl

/-- A credit over the three layers is one for each layer. -/
theorem cred_three (g : GSem nD τ sig) (n : ℕ) :
    (cred (tallyOn g (Finsupp.single 0 n + (Finsupp.single 1 n + Finsupp.single 2 n))) : sProp 𝕄)
      = iprop(cred (tallyAt g 0 n) ∗ cred (tallyAt g 1 n) ∗ cred (tallyAt g 2 n)) := by
  rw [tallyOn_add, tallyOn_add, Entails.antisymm (cred_add _ _).1 (cred_add _ _).2,
    Entails.antisymm (cred_add (tallyOn g (Finsupp.single 1 n)) (tallyOn g (Finsupp.single 2 n))).1 (cred_add _ _).2]
  rfl

/-- A device's credits of its receives in layer `l`. -/
def credL (l : ℕ) (c : Dev nD) : sProp 𝕄 :=
  iprop((bigSep Finset.univ fun k : Fin 7 => cred (tallyAt (cell c (ra k)) l N)) ∗ bigSep Finset.univ fun k : Fin 7 => cred (tallyAt (cell c (rb k)) l N))

/-- Of what is held for all semaphores keep what is held for the protocol's cells. -/
theorem drop_cells (Φ : SemLoc sig → sProp 𝕄) : bigSep Finset.univ Φ ⊢ bigSep Finset.univ fun ci : CI => Φ (csem ci) := by
  have h : bigSep Finset.univ Φ ⊢ bigSep (Finset.univ.map ⟨csem, csem_inj⟩) Φ := BI.bigSep_subset (Finset.subset_univ _)
  rw [bigSep_map] at h; exact h

/-- The credits a device is dealt at launch. -/
theorem creds (c : Dev nD) :
    (Pipeline.launchCred O₀ c : sProp 𝕄) ⊢ iprop(cred (tallyAt (cell c bar) 0 7) ∗ credL 0 c ∗ credL 1 c ∗ credL 2 c) := by
  unfold Pipeline.launchCred credL
  refine (drop_cells _).trans ?_
  rw [bigSep_cells]
  have hb : (cred (tallyOn ((c.tc : Thread nD τ), csem bar) (launchCredit (Pipeline.owing O₀) 0 ((c.tc : Thread nD τ), csem bar))) : sProp 𝕄)
      = cred (tallyAt (cell c bar) 0 7) := by rw [launch_bar c]; rfl
  have hra : (bigSep Finset.univ fun k : Fin 7 => (cred (tallyOn ((c.tc : Thread nD τ), csem (ra k)) (launchCredit (Pipeline.owing O₀) 0 ((c.tc : Thread nD τ), csem (ra k)))) : sProp 𝕄))
      = iprop((bigSep Finset.univ fun k : Fin 7 => cred (tallyAt (cell c (ra k)) 0 N)) ∗ (bigSep Finset.univ fun k : Fin 7 => cred (tallyAt (cell c (ra k)) 1 N))
        ∗ bigSep Finset.univ fun k : Fin 7 => cred (tallyAt (cell c (ra k)) 2 N)) := by
    rw [← bigSep_sep', ← bigSep_sep']
    exact bigSep_congr fun k _ => by rw [launch_xfer c (1, k) k fun l => items_ra l k, cred_three]
  have hrb : (bigSep Finset.univ fun k : Fin 7 => (cred (tallyOn ((c.tc : Thread nD τ), csem (rb k)) (launchCredit (Pipeline.owing O₀) 0 ((c.tc : Thread nD τ), csem (rb k)))) : sProp 𝕄))
      = iprop((bigSep Finset.univ fun k : Fin 7 => cred (tallyAt (cell c (rb k)) 0 N)) ∗ (bigSep Finset.univ fun k : Fin 7 => cred (tallyAt (cell c (rb k)) 1 N))
        ∗ bigSep Finset.univ fun k : Fin 7 => cred (tallyAt (cell c (rb k)) 2 N)) := by
    rw [← bigSep_sep', ← bigSep_sep']
    exact bigSep_congr fun k _ => by rw [launch_xfer c (3, k) k fun l => items_rb l k, cred_three]
  rw [hb, hra, hrb]
  iintro ⟨Hb, -, ⟨A0, A1, A2⟩, -, B0, B1, B2⟩
  isplitl [Hb]; · iexact Hb
  isplitl [A0 B0]; · isplitl [A0] <;> iassumption
  isplitl [A1 B1]; · isplitl [A1] <;> iassumption
  isplitl [A2] <;> iassumption

/-! ## The tokens -/

/-- The tokens minted for a device's own cells: the barrier's seven, and one for each transfer cell and layer. -/
abbrev Tok : Type := Option (Fin 4 × Fin 3) × Fin 7
def tokOf (x : Dev nD × Tok) : GSem nD τ sig × ℕ × Fin 7 := match x.2.1 with
  | none => (cell x.1 bar, 0, x.2.2)
  | some (j, r) => (cell x.1 (some (j, x.2.2)), r.val, 0)

/-- Different tokens are for different payments. -/
theorem tokOf_inj : Function.Injective tokOf := by
  rintro ⟨c, o, k⟩ ⟨c', o', k'⟩ h
  rcases o with _ | ⟨j, r⟩ <;> rcases o' with _ | ⟨j', r'⟩
  · have h1 := cell_inj (congrArg Prod.fst h)
    have h2 : k = k' := congrArg (fun x => x.2.2) h
    have h0 : c = c' := h1.1
    rw [h0, h2]
  · have h1 := cell_inj (congrArg Prod.fst h)
    exact absurd h1.2 (by simp)
  · have h1 := cell_inj (congrArg Prod.fst h)
    exact absurd h1.2 (by simp)
  · have h1 := cell_inj (congrArg Prod.fst h)
    have h2 : r.val = r'.val := congrArg (fun x => x.2.1) h
    have h3 : (j, k) = (j', k') := Option.some.inj h1.2
    have h4 : j = j' := congrArg Prod.fst h3
    have h5 : k = k' := congrArg Prod.snd h3
    have h0 : c = c' := h1.1
    rw [h0, h4, h5, Fin.ext h2]

/-- A layer's tokens of a device's own cells, and of the payments it makes. -/
def ownL (l : ℕ) (c : Dev nD) : sProp 𝕄 :=
  iprop((bigSep Finset.univ fun k : Fin 7 => dutyTok ER (cell c (sa k)) l 0) ∗ (bigSep Finset.univ fun k : Fin 7 => dutyTok ER (cell c (ra k)) l 0)
    ∗ (bigSep Finset.univ fun k : Fin 7 => dutyTok ER (cell c (sb k)) l 0) ∗ bigSep Finset.univ fun k : Fin 7 => dutyTok ER (cell c (rb k)) l 0)
def payL (l : ℕ) (c : Dev nD) : sProp 𝕄 :=
  iprop((bigSep Finset.univ fun k : Fin 7 => dutyTok ER (cell c (sa k)) l 0) ∗ (bigSep Finset.univ fun k : Fin 7 => dutyTok ER (cell (tgt c k) (ra k)) l 0)
    ∗ (bigSep Finset.univ fun k : Fin 7 => dutyTok ER (cell c (sb k)) l 0) ∗ bigSep Finset.univ fun k : Fin 7 => dutyTok ER (cell (tgt c k) (rb k)) l 0)
def ownToks (c : Dev nD) : sProp 𝕄 :=
  iprop((bigSep Finset.univ fun k : Fin 7 => dutyTok ER (cell c bar) 0 k) ∗ ownL 0 c ∗ ownL 1 c ∗ ownL 2 c)
def payToks (c : Dev nD) : sProp 𝕄 :=
  iprop((bigSep Finset.univ fun k : Fin 7 => dutyTok ER (cell (tgt c k) bar) 0 k) ∗ payL 0 c ∗ payL 1 c ∗ payL 2 c)

/-- A layer's payment tokens and credits are what the layer is dealt. -/
theorem deal_of (l : ℕ) (c : Dev nD) : iprop(payL l c ∗ credL l c) ⊢ (deal l c : sProp 𝕄) := by
  unfold payL credL deal
  iintro ⟨⟨H1, H2, H3, H4⟩, H5, H6⟩
  isplitl [H1]; · iexact H1
  isplitl [H2]; · iexact H2
  isplitl [H3]; · iexact H3
  isplitl [H4]; · iexact H4
  isplitl [H5] <;> iassumption

/-- The minted tokens are every device's own. -/
theorem minted (c : Dev nD) : (bigSep Finset.univ fun t : Tok => (dutyTok ER (tokOf (c, t)).1 (tokOf (c, t)).2.1 (tokOf (c, t)).2.2 : sProp 𝕄)) ⊢ ownToks c := by
  rw [bigSep_univ_prod, bigSep_opt, bigSep_univ_prod, bigSep_four]
  simp only [bigSep_three]
  unfold ownToks ownL
  iintro ⟨Hb, ⟨A0, A1, A2⟩, ⟨B0, B1, B2⟩, ⟨C0, C1, C2⟩, D0, D1, D2⟩
  isplitl [Hb]; · iexact Hb
  isplitl [A0 B0 C0 D0]
  · isplitl [A0]; · iexact A0
    isplitl [B0]; · iexact B0
    isplitl [C0]; · iexact C0
    iexact D0
  isplitl [A1 B1 C1 D1]
  · isplitl [A1]; · iexact A1
    isplitl [B1]; · iexact B1
    isplitl [C1]; · iexact C1
    iexact D1
  isplitl [A2]; · iexact A2
  isplitl [B2]; · iexact B2
  isplitl [C2]; · iexact C2
  iexact D2

/-- The devices and message indices permuted: to each message its receiver. -/
def hop : Dev nD × Fin 7 ≃ Dev nD × Fin 7 :=
  ⟨fun x => (tgt x.1 x.2, x.2), fun x => (src x.1 x.2, x.2), fun x => by simp only [src_tgt], fun x => by simp only [tgt_src]⟩

/-- A double conjunction over devices and messages may be counted at the receiver. -/
theorem move (Φ : Dev nD → Fin 7 → sProp 𝕄) :
    (bigSep Finset.univ fun c : Dev nD => bigSep Finset.univ fun k : Fin 7 => Φ c k)
      = bigSep Finset.univ fun c : Dev nD => bigSep Finset.univ fun k : Fin 7 => Φ (tgt c k) k := by
  rw [← bigSep_univ_prod (fun x : Dev nD × Fin 7 => Φ x.1 x.2), bigSep_univ_equiv hop, ← bigSep_univ_prod (fun x : Dev nD × Fin 7 => Φ (tgt x.1 x.2) x.2)]
  rfl

/-- The tokens of a layer, sorted by the cell's owner, are the same tokens sorted by who pays. -/
theorem moveL (l : ℕ) : (bigSep Finset.univ fun c : Dev nD => (ownL l c : sProp 𝕄)) = bigSep Finset.univ fun c : Dev nD => payL l c := by
  unfold ownL payL
  simp only [bigSep_sep']
  rw [move fun c k => dutyTok ER (cell c (ra k)) l 0, move fun c k => dutyTok ER (cell c (rb k)) l 0]

/-- The tokens dealt to those who pay with them. -/
theorem move_all : (bigSep Finset.univ fun c : Dev nD => (ownToks c : sProp 𝕄)) = bigSep Finset.univ fun c : Dev nD => payToks c := by
  unfold ownToks payToks
  simp only [bigSep_sep', moveL]
  rw [move fun c k => dutyTok ER (cell c bar) 0 k]

end Cert.Mlp

end
-- ==== Proof.Run.lean ====
/-
The launch and the run: from any memory with zero counters the eight kernels terminate, and every final memory holds the computed results.
-/
module

public import proofs.«01_k».proof.Proof.Credits
public import proofs.«01_k».proof.Proof.Gen.KernelIdeal.Points
public import Idealize.ShloMosaic.Lib.Pipeline.CollectiveSegs

@[expose] public section

noncomputable section

namespace Cert.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Idealize.ShloMosaic.ValueIdx (ix2 ix3 eq_ix2 eq_ix3)

variable {F : FTy → Type} [FloatOps F]

local notation "𝕄" => MT nD τ sig ℕ (Elt F) ℕ UU ℕ

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- What the devices read of it: the staged blocks of the activations and of each layer's weights. -/
def inp : Inp F where
  x c := (win0_0.blk (0 : Fin 1)).view.read (Elt F) (m ((c : Thread nD τ).loc main_arg0))
  wi l c := match l with
    | 0 => (win0_1.blk (0 : Fin 1)).view.read (Elt F) (m ((c : Thread nD τ).loc main_arg1))
    | 1 => (win0_3.blk (0 : Fin 1)).view.read (Elt F) (m ((c : Thread nD τ).loc main_arg2))
    | _ => (win0_5.blk (0 : Fin 1)).view.read (Elt F) (m ((c : Thread nD τ).loc main_arg3))
  wo l c := match l with
    | 0 => (win0_2.blk (0 : Fin 1)).view.read (Elt F) (m ((c : Thread nD τ).loc main_arg4))
    | 1 => (win0_4.blk (0 : Fin 1)).view.read (Elt F) (m ((c : Thread nD τ).loc main_arg5))
    | _ => (win0_6.blk (0 : Fin 1)).view.read (Elt F) (m ((c : Thread nD τ).loc main_arg6))

/-- The staged weights, as the buffers of a symbolic layer. -/
def bufI (c : Dev nD) (l : ℕ) : Buf (Elt F) ((mI l).view.loc (c : Thread nD τ)) := match l with
  | 0 => (inp m).wi 0 c
  | 1 => (inp m).wi 1 c
  | n + 2 => (inp m).wi (n + 2) c
def bufO (c : Dev nD) (l : ℕ) : Buf (Elt F) ((mO l).view.loc (c : Thread nD τ)) := match l with
  | 0 => (inp m).wo 0 c
  | 1 => (inp m).wo 1 c
  | n + 2 => (inp m).wo (n + 2) c

/-- A load of a layer's first weight reads the device's block of it. -/
theorem read_bufI (c : Dev nD) : ∀ l, (mI l).view.readAt (Elt F) rI.toLoadRect (bufI m c l) = (inp m).wi l c
  | 0 => Memref.readAt_unit_zero (Elt F) cc0_stg1_0 hz2 _ _
  | 1 => Memref.readAt_unit_zero (Elt F) cc0_stg3_0 hz2 _ _
  | n + 2 => Memref.readAt_unit_zero (Elt F) cc0_stg5_0 hz2 _ _
/-- A load of a layer's second weight reads the device's block of it. -/
theorem read_bufO (c : Dev nD) : ∀ l, (mO l).view.readAt (Elt F) rO.toLoadRect (bufO m c l) = (inp m).wo l c
  | 0 => Memref.readAt_unit_zero (Elt F) cc0_stg2_0 hz2 _ _
  | 1 => Memref.readAt_unit_zero (Elt F) cc0_stg4_0 hz2 _ _
  | n + 2 => Memref.readAt_unit_zero (Elt F) cc0_stg6_0 hz2 _ _

/-! ## The kernel's own semaphores -/

/-- The semaphore of the kernel that it does not use. -/
abbrev spare : SemLoc sig := .dma cc0_scratch8.sem

abbrev osem : Option (Fin 4 × Fin 7) → SemLoc sig
  | none => spare
  | some jk => csem (some jk)

/-- The kernel's own semaphores are apart from the pipeline's. -/
theorem ownSemFacts : Pipeline.OwnSemFacts cfg0.spec osem := by decide +kernel

/-- A device's own semaphores are the spare one and those of its transfer cells; the barrier's is the one outside. -/
theorem ownSems0_eq (c : Dev nD) : (Pipeline.ownSems0 (Ix := ℕ) (Name := ℕ) (U := UU) (Lvl := ℕ) (Val := Elt F) (τ := τ) osem c : sProp 𝕄)
    = iprop(semVal ((c : Thread nD τ), spare) 0 ∗ bigSep Finset.univ fun jk : Fin 4 × Fin 7 => semVal (cell c (some jk)) 0) := by
  unfold Pipeline.ownSems0; rw [bigSep_opt]
/-- The one semaphore that outlives the kernel is the barrier, at zero. -/
theorem unscopedSems0_eq (c : Dev nD) : (unscopedSems0 c : sProp 𝕄) = semVal (cell c bar) 0 := by
  unfold unscopedSems0; rw [bigSep_eq_bigSepL_of_eq [SemLoc.reg barS] (by decide +kernel) (by decide)]; rfl

/-! ## What the launch deals -/

def allCells : Finset (GSem nD τ sig) :=
  Finset.univ.map ⟨fun x : Dev nD × CI => cell x.1 x.2, fun x y h => Prod.ext (cell_inj h).1 (cell_inj h).2⟩
def allToks : Finset (GSem nD τ sig × ℕ × Fin 7) := Finset.univ.map ⟨tokOf, tokOf_inj⟩

def u₀ : UU :=
  (initOf (Pipeline.cells cfgs cellOf_inj) (Pipeline.launchToks cfgs cellOf_inj), initOf allCells allToks)

/-- A device's share of the launch: its cells at round 0, its positions and marks, its own cells' tokens. -/
def G (c : Dev nD) : sProp 𝕄 :=
  iprop((bigSep Finset.univ fun ci : CI => roundState ER (Rd (inp m)) (cell c ci) 0)
    ∗ ((bigSep Finset.univ fun ci : CI => atPos ER (cell c ci) 0 ∅ 0) ∗ bigSep Finset.univ fun ci : CI => reached ER (cell c ci) 0) ∗ ownToks c)

/-- Everybody's invariants and marks. -/
def known (I : Inp F) (K : Dev nD × CI → ℕ) : sProp 𝕄 :=
  iprop((bigSep Finset.univ fun x : Dev nD × CI => cellInv ER (Rd I) (K x) (cell x.1 x.2))
    ∗ (bigSep Finset.univ fun x : Dev nD × CI => reached ER (cell x.1 x.2) 0))

instance known_persistent (I : Inp F) (K : Dev nD × CI → ℕ) : BI.Persistent (known I K) := by unfold known; infer_instance

/-- What is a device's alone: the spare semaphore, its positions and the tokens it pays with. -/
def lone (c : Dev nD) : sProp 𝕄 :=
  iprop(semVal ((c : Thread nD τ), spare) 0 ∗ (bigSep Finset.univ fun ci : CI => atPos ER (cell c ci) 0 ∅ 0) ∗ payToks c)

def G' (c : Dev nD) : sProp 𝕄 := iprop(∃ K, known (inp m) K ∗ lone c)

/-- The protocol's opening resources give every device its part. -/
theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun ci : CI => Φ (cell c ci) := by
    unfold allCells; rw [bigSep_map, bigSep_univ_prod]; rfl
  have hT : bigSep allToks (fun x => (dutyTok ER x.1 x.2.1 x.2.2 : sProp 𝕄)) ⊢ bigSep Finset.univ fun c : Dev nD => ownToks c := by
    unfold allToks; rw [bigSep_map, bigSep_univ_prod]
    exact bigSep_mono fun c _ => minted c
  iintro HX
  imod (Rounds.fund ER (Rd (inp m)) allCells allToks) $$ HX with ⟨Hst, Hr, Hat, Htok⟩
  imodintro
  ihave Hst' := (Entails.of_eq (hX fun g => roundState ER (Rd (inp m)) g 0)) $$ Hst
  ihave Hat' := (Entails.of_eq (hX fun g => atPos ER g 0 ∅ 0)) $$ Hat
  ihave Hr' := (Entails.of_eq (hX fun g => reached ER g 0)) $$ Hr
  ihave Htok' := hT $$ Htok
  unfold G; simp only [bigSep_sep']
  isplitl [Hst']; · iexact Hst'
  isplitl [Hat' Hr']
  · isplitl [Hat'] <;> iassumption
  iexact Htok'

/-- A device's cells' invariants allocated. -/
theorem core_alloc (c : Dev nD) :
    iprop(Pipeline.ownSems0 (Ix := ℕ) (Name := ℕ) (U := UU) (Lvl := ℕ) (Val := Elt F) (τ := τ) osem c ∗ unscopedSems0 c ∗ G m c)
      ⊢ |={Set.univ}=> iprop((bigSep Finset.univ fun ci : CI => iprop(∃ κ : ℕ, cellInv ER (Rd (inp m)) κ (cell c ci)))
          ∗ semVal ((c : Thread nD τ), spare) 0
          ∗ ((bigSep Finset.univ fun ci : CI => atPos ER (cell c ci) 0 ∅ 0) ∗ bigSep Finset.univ fun ci : CI => reached ER (cell c ci) 0) ∗ ownToks c) := by
  unfold G
  rw [ownSems0_eq, unscopedSems0_eq]
  iintro ⟨⟨Hsp, Hos⟩, Hus, Hst, Hat, Htok⟩
  imod (show iprop((bigSep Finset.univ fun ci : CI => semVal (cell c ci) 0) ∗ bigSep Finset.univ fun ci : CI => roundState ER (Rd (inp m)) (cell c ci) 0)
      ⊢ (|={Set.univ}=> bigSep Finset.univ fun ci : CI => iprop(∃ κ : ℕ, cellInv ER (Rd (inp m)) κ (cell c ci)) : sProp 𝕄) from by
        rw [← bigSep_sep']
        exact (bigSep_mono fun k _ => (Rounds.body_intro ER (Rd (inp m)) (cell c k)).trans inv_alloc).trans (bigSep_fupd _ _)) $$ [Hos Hus Hst] with Hinv
  · isplitl [Hos Hus]
    · rw [bigSep_opt]
      isplitl [Hus] <;> iassumption
    iassumption
  imodintro
  isplitl [Hinv]; · iexact Hinv
  isplitl [Hsp]; · iexact Hsp
  isplitl [Hat]; · iexact Hat
  iexact Htok

/-- The devices' opening parts, with the tokens moved from the cells' owners to those who pay. -/
theorem regroup :
    (bigSep Finset.univ fun c : Dev nD => iprop((bigSep Finset.univ fun ci : CI => iprop(∃ κ : ℕ, cellInv ER (Rd (inp m)) κ (cell c ci)))
          ∗ semVal ((c : Thread nD τ), spare) 0
          ∗ ((bigSep Finset.univ fun ci : CI => atPos ER (cell c ci) 0 ∅ 0) ∗ bigSep Finset.univ fun ci : CI => reached ER (cell c ci) 0) ∗ ownToks c) : sProp 𝕄)
      ⊢ bigSep Finset.univ (G' m) := by
  rw [bigSep_sep', bigSep_sep', bigSep_sep', bigSep_sep', ← bigSep_univ_prod (fun x : Dev nD × CI => iprop(∃ κ : ℕ, cellInv ER (Rd (inp m)) κ (cell x.1 x.2))),
    ← bigSep_univ_prod (fun x : Dev nD × CI => (reached ER (cell x.1 x.2) 0 : sProp 𝕄)), move_all]
  iintro ⟨HI, Hsp, ⟨Hat, #HR⟩, Htok⟩
  ihave HK := (BI.bigSep_exists_pi Finset.univ (fun (x : Dev nD × CI) (κ : ℕ) => (cellInv ER (Rd (inp m)) κ (cell x.1 x.2) : sProp 𝕄))) $$ HI
  icases HK with ⟨%K, #HI⟩
  have hG : ∀ c ∈ (Finset.univ : Finset (Dev nD)), iprop(known (inp m) K ∗ lone c) ⊢ G' m c := fun c _ => by
    unfold G'; iintro H; iexists K; iexact H
  have hL : iprop((bigSep Finset.univ fun c : Dev nD => semVal ((c : Thread nD τ), spare) 0)
      ∗ (bigSep Finset.univ fun c : Dev nD => bigSep Finset.univ fun ci : CI => atPos ER (cell c ci) 0 ∅ 0) ∗ bigSep Finset.univ fun c : Dev nD => payToks c)
      = (bigSep Finset.univ fun c : Dev nD => lone c : sProp 𝕄) := by
    unfold lone; rw [bigSep_sep', bigSep_sep']
  iapply (with_persistent (R := known (inp m) K) hG)
  isplitr
  · unfold known; isplitl; · iexact HI
    iexact HR
  · iapply (Entails.of_eq hL)
    isplitl [Hsp]; · iexact Hsp
    isplitl [Hat]; · iexact Hat
    iexact Htok

/-- The semaphores of every device at once made into the protocol's invariants. -/
theorem glob : (bigSep Finset.univ fun c => iprop(Pipeline.ownSems0 (Ix := ℕ) (Name := ℕ) (U := UU) (Lvl := ℕ) (Val := Elt F) (τ := τ) osem c
      ∗ unscopedSems0 c ∗ G m c) : sProp 𝕄) ⊢ |={Set.univ}=> bigSep Finset.univ (G' m) :=
  ((bigSep_mono fun c _ => core_alloc m c).trans (bigSep_fupd _ _)).trans (BI.fupd_mono (regroup m))

/-! ## The pipeline's proof data -/

/-- What a device starts from, and the invariant before and after the one point. -/
def start (c : Dev nD) : sProp 𝕄 :=
  iprop(G' m c ∗ (cred (tallyAt (cell c bar) 0 7) ∗ credL 0 c ∗ credL 1 c ∗ credL 2 c) ∗ levAts L lv)
def Φ₀ (c : Dev nD) : sProp 𝕄 := iprop(start m c ∗ scratch c)
def Φ₁ (c : Dev nD) : sProp 𝕄 := iprop(scratch c ∗ zeros c ∗ semVal ((c : Thread nD τ), spare) 0)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => (inp m).x c
    | ⟨1, _⟩ => (inp m).wi 0 c
    | ⟨2, _⟩ => (inp m).wo 0 c
    | ⟨3, _⟩ => (inp m).wi 1 c
    | ⟨4, _⟩ => (inp m).wo 1 c
    | ⟨5, _⟩ => (inp m).wi 2 c
    | ⟨6, _⟩ => (inp m).wo 2 c
    | ⟨7, _⟩ => acts (inp m) 3 c
  Φ t := match t with
    | ⟨0, _⟩ => Φ₀ m c
    | ⟨_ + 1, _⟩ => Φ₁ c
  q _ := fullShare
  owed t := match t with
    | ⟨0, _⟩ => O₀ c
    | ⟨_ + 1, _⟩ => 0

/-- Owning a whole array's view is owning the array. -/
theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body obligation -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt 0 t0_0.castSucc
    ∗ (∃ d, stg c cc0_stg0_0 ((dats m ρ 0 c).before (0 : Fin 8) t0_0 d))
    ∗ (∃ d, stg c cc0_stg1_0 ((dats m ρ 0 c).before (1 : Fin 8) t0_0 d))
    ∗ (∃ d, stg c cc0_stg2_0 ((dats m ρ 0 c).before (2 : Fin 8) t0_0 d))
    ∗ (∃ d, stg c cc0_stg3_0 ((dats m ρ 0 c).before (3 : Fin 8) t0_0 d))
    ∗ (∃ d, stg c cc0_stg4_0 ((dats m ρ 0 c).before (4 : Fin 8) t0_0 d))
    ∗ (∃ d, stg c cc0_stg5_0 ((dats m ρ 0 c).before (5 : Fin 8) t0_0 d))
    ∗ (∃ d, stg c cc0_stg6_0 ((dats m ρ 0 c).before (6 : Fin 8) t0_0 d))
    ∗ (∃ d, stg c cc0_stg7_0 ((dats m ρ 0 c).before (7 : Fin 8) t0_0 d)))

def bodyPost (c : Dev nD) : sProp 𝕄 :=
  iprop(Φ₁ c ∗ (dats m ρ 0 c).owesAt 0 t0_0.succ
    ∗ stg c cc0_stg0_0 ((inp m).x c)
    ∗ stg c cc0_stg1_0 ((inp m).wi 0 c)
    ∗ stg c cc0_stg2_0 ((inp m).wo 0 c)
    ∗ stg c cc0_stg3_0 ((inp m).wi 1 c)
    ∗ stg c cc0_stg4_0 ((inp m).wo 1 c)
    ∗ stg c cc0_stg5_0 ((inp m).wi 2 c)
    ∗ stg c cc0_stg6_0 ((inp m).wo 2 c)
    ∗ stg c cc0_stg7_0 (acts (inp m) 3 c))

/-- A device that reads its own number goes on at that number. -/
theorem wp_own (c : Dev nD) (k : Dev nD → Pg (F := F)) (Q : PUnit → sProp (MT nD τ sig ℕ (Elt F) ℕ UU ℕ)) :
    WP c (.op .deviceId k) Q = WP c (k c) Q := wp_deviceId _ _ _ _

/-- The body, from what a device starts with, ends with its result stored and everything given back. -/
theorem sound_body (c : Dev nD) : bodyPre m ρ c ⊢ WP c body (fun _ => bodyPost m ρ c) := by
  rw [body_eq', wp_own]
  unfold bodyPre Φ₀ start G' known lone payToks
  iintro ⟨⟨⟨⟨%K, #⟨HI, HR⟩, Hsp, Hat, Tb, T0, T1, T2⟩, ⟨Cb, C0, C1, C2⟩, #HL⟩, Hscr⟩, Ho, ⟨%d0, %g0, %h0, H0⟩, ⟨%d1, %g1, %h1, H1⟩, ⟨%d2, %g2, %h2, H2⟩, ⟨%d3, %g3, %h3, H3⟩, ⟨%d4, %g4, %h4, H4⟩, ⟨%d5, %g5, %h5, H5⟩, ⟨%d6, %g6, %h6, H6⟩, ⟨%d7, %g7, %h7, H7⟩⟩
  have e0 : g0 = (inp m).x c := by rw [h0]; unfold Dat.before; rw [if_pos (fetch0_0 t0_0)]; rfl
  subst e0
  have e1 : g1 = (inp m).wi 0 c := by rw [h1]; unfold Dat.before; rw [if_pos (fetch0_1 t0_0)]; rfl
  subst e1
  have e2 : g2 = (inp m).wo 0 c := by rw [h2]; unfold Dat.before; rw [if_pos (fetch0_2 t0_0)]; rfl
  subst e2
  have e3 : g3 = (inp m).wi 1 c := by rw [h3]; unfold Dat.before; rw [if_pos (fetch0_3 t0_0)]; rfl
  subst e3
  have e4 : g4 = (inp m).wo 1 c := by rw [h4]; unfold Dat.before; rw [if_pos (fetch0_4 t0_0)]; rfl
  subst e4
  have e5 : g5 = (inp m).wi 2 c := by rw [h5]; unfold Dat.before; rw [if_pos (fetch0_5 t0_0)]; rfl
  subst e5
  have e6 : g6 = (inp m).wo 2 c := by rw [h6]; unfold Dat.before; rw [if_pos (fetch0_6 t0_0)]; rfl
  subst e6
  unfold Dat.owesAt Pipeline.owesWithin
  icases Ho with ⟨%W, %hW, HO⟩
  ihave Hat' := (Entails.of_eq (bigSep_cells fun ci => atPos ER (cell c ci) 0 ∅ 0)) $$ Hat
  icases Hat' with ⟨Pb, P0, P1, P2, P3⟩
  iapply (wp_prog (inp m) K c _ ((inp m).x c) (Memref.readAt_unit_zero (Elt F) cc0_stg0_0 hz2 _ _) (bufI m c) (read_bufI m c) (bufO m c) (read_bufO m c) g7)
    $$ [HO Hscr Pb P0 P1 P2 P3 Tb T0 T1 T2 Cb C0 C1 C2 H0 H1 H2 H3 H4 H5 H6 H7]
  · isplitr
    · unfold recs
      isplitr; · iexact HI
      isplitr; · iexact HR
      iexact HL
    isplitl [HO]; · unfold ow; iexists W; iexact HO
    isplitl [Hscr]; · iexact Hscr
    isplitl [Pb P0 P1 P2 P3 Tb T0 T1 T2 Cb C0 C1 C2]
    · unfold dealt poss
      isplitl [Pb]; · iexact Pb
      isplitl [P0 P1 P2 P3]
      · isplitl [P0]; · iexact P0
        isplitl [P1]; · iexact P1
        isplitl [P2]; · iexact P2
        iexact P3
      isplitl [Tb]; · iexact Tb
      isplitl [Cb]; · iexact Cb
      isplitl [T0 C0]
      · iapply (deal_of 0 c); isplitl [T0] <;> iassumption
      isplitl [T1 C1]
      · iapply (deal_of 1 c); isplitl [T1] <;> iassumption
      iapply (deal_of 2 c); isplitl [T2] <;> iassumption
    isplitl [H0]; · iexact H0
    isplitl [H1 H2]
    · unfold weights; isplitl [H1]; · iexact H1
      iexact H2
    isplitl [H3 H4]
    · unfold weights; isplitl [H3]; · iexact H3
      iexact H4
    isplitl [H5 H6]
    · unfold weights; isplitl [H5]; · iexact H5
      iexact H6
    iexact H7
  unfold weights ow
  iintro ⟨⟨%W', HO⟩, Hscr, HZ, H0, ⟨H1, H2⟩, ⟨H3, H4⟩, ⟨H5, H6⟩, H7⟩
  unfold bodyPost Φ₁ Dat.owesAt Pipeline.owesWithin
  isplitl [Hscr HZ Hsp]
  · isplitl [Hscr]; · iexact Hscr
    isplitl [HZ]; · iexact HZ
    iexact Hsp
  isplitl [HO]
  · iexists W'
    isplitr; · ipureintro; exact fun _ _ => Or.inl trivial
    iexact HO
  isplitl [H0]
  · iexists _
    isplitr; · (ipureintro; rfl)
    iexact H0
  isplitl [H1]
  · iexists _
    isplitr; · (ipureintro; rfl)
    iexact H1
  isplitl [H2]
  · iexists _
    isplitr; · (ipureintro; rfl)
    iexact H2
  isplitl [H3]
  · iexists _
    isplitr; · (ipureintro; rfl)
    iexact H3
  isplitl [H4]
  · iexists _
    isplitr; · (ipureintro; rfl)
    iexact H4
  isplitl [H5]
  · iexists _
    isplitr; · (ipureintro; rfl)
    iexact H5
  isplitl [H6]
  · iexists _
    isplitr; · (ipureintro; rfl)
    iexact H6
  iexists _
  isplitr; · (ipureintro; rfl)
  iexact H7

/-- The entry of the custom call, at its one point, is the body on the staged buffers. -/
theorem defs_body : defs₀ (F := F) Proc.tc 0 (t0_0, cfg0.slots t0_0) = body := rfl

set_option maxRecDepth 100000 in
theorem body_obligation (c : Dev nD) : BodyObligation (dats (F := F) m ρ 0 c) (defs₀ (F := F)) 𝒱₀ 0 Set.univ := fun t => by
  rw [fin_N0 t]
  rw [bigSep_W0, bigSep_W0]
  simp only [owns_whole_eq]
  show bodyPre m ρ c ⊢ _
  rw [defs_body]
  exact sound_body m ρ c

/-! ## The launch's side conditions -/

/-- Every window is held in full. -/
theorem share_eq (c : Dev nD) (w : Fin cfg0.W) : (dats m ρ 0 c).share w = fullShare := by unfold Dat.share; split <;> rfl

/-- What the launch leaves a device is what its body starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

/-- The state before the one step of the grid. -/
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs]; · iexact Hs
  iexact Hr

/-- The state after the one step gives every semaphore back at zero. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq, bigSep_xfer]
  unfold Φ₁ scratch zeros
  iintro ⟨Hr, ⟨Hb, H0, H1, H2, H3⟩, Hsp⟩
  isplitl [Hb]; · iexact Hb
  isplitr [Hr]
  · isplitl [Hsp]; · iexact Hsp
    isplitl [H0]; · iexact H0
    isplitl [H1]; · iexact H1
    isplitl [H2]; · iexact H2
    iexact H3
  iexact Hr

/-- The staging semaphores are none of the protocol's. -/
theorem stage_code : ∀ w : Fin cfg0.W, ∀ s, codeOf (.dma ((cfg0.win w).sem s)) = none :=
  (by decide +kernel : ∀ w : Fin 8, ∀ s : Fin (spec0 w).nbuf, codeOf (.dma ((spec0 w).sem s)) = none)

/-- The pipeline's own waits lie below everything that is owed. -/
theorem waits (c : Dev nD) : (levAts L lv : sProp 𝕄) ⊢ Pipeline.cellsWaits cfgs (dats m ρ) 0 0 c :=
  Pipeline.cellsWaits_intro cfgs (dats m ρ) 0 0 c fun w s t => by
    rcases t with ⟨_ | _, ht⟩
    · exact mayWait_due c _ (by omega) itemsAll fun x hx => ⟨(above_all x hx).1, by rw [stage_code w s]; exact (above_all x hx).2⟩
    · show _ ⊢ MayWait _ _ _ 0
      rw [MayWait_zero]; iintro -; iempintro

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- For any float values, from any memory with zero counters, the eight kernels terminate on every fair schedule, every
    final memory holds each window's array at the computed contents, and every semaphore counter is zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An argument's array after the run holds what it held. -/
theorem finalA_in (c : Dev nD) (w : Fin cfg0.W) (h : (cfg0.win w).isOut = false) : finalA m ρ c w = m ((cfg0.win w).arr.view.loc (c : Thread nD τ)) :=
  (dats (F := F) m ρ 0 c).arrAt_in w h _

end Cert.Mlp

end
-- ==== Proof.Frames.lean ====
/-
The frames: the kernel at bits and its idealization terminate with their inputs as they were and every counter zero; and the result's array.
-/
module

public import proofs.«01_k».proof.Defs
public import proofs.«01_k».proof.Proof.Gen.Kernel
public import proofs.«01_k».proof.Proof.Run
public import Idealize.ShloMosaic.Lib.Pipeline.ValueKit.Geometry

@[expose] public section

noncomputable section

namespace Cert.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 eq_ix2 eq_ix3)

variable {F : FTy → Type} [FloatOps F]

local notation "𝕄" => MT nD τ sig ℕ (Elt F) ℕ UU ℕ

variable (m : (ℓ : Loc nD τ sig) → Buf (Elt F) ℓ) (ρ : Dev nD → PrngReg)

/-- What a final memory keeps: the seven argument arrays. -/
abbrev Kept (r : PUnit × MemSt nD τ sig (Elt F)) (c : Dev nD) : Prop :=
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)
  ∧ r.2.mem ((c.tc : Thread nD τ).loc main_arg5) = m ((c.tc : Thread nD τ).loc main_arg5)
  ∧ r.2.mem ((c.tc : Thread nD τ).loc main_arg6) = m ((c.tc : Thread nD τ).loc main_arg6)

/-- A final memory of the run keeps the argument arrays, which are the first seven windows'. -/
theorem kept {r : PUnit × MemSt nD τ sig (Elt F)} (h : QC m ρ r) (c : Dev nD) : Kept m r c :=
  ⟨(h c 0).trans (finalA_in m ρ c 0 rfl),
    (h c 1).trans (finalA_in m ρ c 1 rfl),
    (h c 3).trans (finalA_in m ρ c 3 rfl),
    (h c 5).trans (finalA_in m ρ c 5 rfl),
    (h c 2).trans (finalA_in m ρ c 2 rfl),
    (h c 4).trans (finalA_in m ρ c 4 rfl),
    (h c 6).trans (finalA_in m ρ c 6 rfl)⟩

/-- The result's array is written whole with the output window's staged contents: the activations after three layers. -/
theorem result {r : PUnit × MemSt nD τ sig (Elt F)} (h : QC m ρ r) (c : Dev nD) :
    r.2.mem ((c.tc : Thread nD τ).loc main_v1) = acts (inp m) 3 c := by
  refine (h c 7).trans ?_
  exact (dats (F := F) m ρ 0 c).arrAt_eq_of_after_last 7 t0_0 (by decide +kernel) _ fun _ => rfl

/-- The frame, for any float values. -/
theorem frame_any : θ_run Cert.KernelIdeal.defs (onTc (τ := τ) (Cert.KernelIdeal.main (F := F))) (s₀ m ρ)
    (fun r => (∀ c, Kept m r c) ∧ r.2.sem = fun _ => 0) :=
  (θ_run Cert.KernelIdeal.defs _ _).mono (fun _ h => ⟨fun c => kept m ρ h.1 c, h.2⟩) (run_main (F := F) m ρ)

/-- The idealized kernel's frame. -/
theorem frame_kernelIdeal : Cert.quiescent_KernelIdeal := fun m ρ _ => frame_any (F := Ideal) m ρ

set_option maxRecDepth 100000 in
/-- The two programs have one body table, label by label. -/
theorem entries_eq : Cert.Kernel.defs₀ (F := F) = Cert.KernelIdeal.defs₀ := by
  funext p ℓ a
  match p, ℓ, a with
  | .tc, ⟨0, _⟩, (t, s) => rfl
  | .scScalar _, _, _ => rfl
  | .scVector _ _, _, _ => rfl

/-- They have one table of bodies, regions and pipelines. -/
theorem table_eq : Cert.Kernel.defs (F := F) = Cert.KernelIdeal.defs := by
  unfold Cert.Kernel.defs Cert.KernelIdeal.defs
  rw [entries_eq]; rfl

set_option maxRecDepth 100000 in
/-- They have one host program. -/
theorem host_eq : Cert.Kernel.main (F := F) = Cert.KernelIdeal.main := rfl

/-- The kernel's frame: the same run, at bits. -/
theorem frame_kernel : Cert.quiescent_Kernel := fun m ρ _ => by
  rw [table_eq, host_eq]
  exact frame_any (F := Bits) m ρ

end Cert.Mlp

end
-- ==== Proof.Value.lean ====
/-
The values over the extended reals: a layer of the eight devices is a layer of the reference, block by block, so three layers are the reference's three.
-/
module

public import proofs.«01_k».proof.Proof.Mask
public import proofs.«01_k».proof.Proof.Proto
public import proofs.«01_k».proof.Proof.Pass
public import Idealize.ShloMosaic.Lib.Pointwise
public import Idealize.ShloMosaic.Lib.Layout
public import Idealize.ShloMosaic.PureOps.Ideal.Laws
public import proofs.«01_k».proof.Proof.Gen.ReferenceIdeal

@[expose] public section

noncomputable section

namespace Cert.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## One device's operations at an index -/

/-- Slot `t` of a device's product: 128 columns of its block of `x` times its block of the weight. -/
theorem prt_apply (x : FVec Ideal S64x512 .f32) (w : FVec Ideal S512x1024 .f32) (t : Fin 8) (a : Fin 64) (b : Fin 128) :
    prt x w (ix3 t a b) = ∑ k : Fin 512, x (ix2 a k) * w (ix2 k ⟨t.val * 128 + b.val, by omega⟩) := by
  unfold prt k0_pay10
  pointwise

/-- The copy that is sent has the same values. -/
theorem prtB_apply (x : FVec Ideal S64x512 .f32) (w : FVec Ideal S512x1024 .f32) (i : S8x64x128.Idx) : prtB x w i = prt x w i := by
  unfold prtB prt k0_pay11
  rw [shapeCast_self]; rfl

/-- The mask of device `c` at slot `t`. -/
theorem mask_at (c : Dev nD) (t : Fin 8) : k0_pay1 c (ix3 t 0 0) = if t.val = c.val then 1#1 else 0#1 := pay1_at c t

/-- The sum over the slots under the mask is the device's own slot. -/
theorem accOwn_apply (c : Dev nD) (p : FVec Ideal S8x64x128 .f32) (a : Fin 64) (b : Fin 128) :
    accOwn (k0_pay1 c) p (ix2 a b) = p (ix3 c a b) := by
  unfold accOwn k0_pay12
  pointwise
  refine (Finset.sum_eq_single c (fun t _ ht => ?_) (fun h => absurd (Finset.mem_univ c) h)).trans ?_
  · rw [mask_at c t, if_neg (fun h => ht (Fin.ext h))]; rfl
  · rw [mask_at c c, if_pos rfl]; rfl

/-- Adding a received slot at an element. -/
theorem accAdd_apply (s : FVec Ideal S64x128 .f32) (v : FVec Ideal S1x64x128 .bf16) (a : Fin 64) (b : Fin 128) :
    accAdd s v (ix2 a b) = s (ix2 a b) + v (ix3 0 a b) := by
  unfold accAdd
  pointwise

/-- The reduced slot that is sent, at an element: over the extended reals its cast changes nothing. -/
theorem rectS_apply (s : FVec Ideal S64x128 .f32) (i : S64x128.Idx) : rectS s i = max (s i) 0 := by
  unfold rectS rect
  pointwise

/-- The reduced slot that is kept, at an element. -/
theorem rect_apply (s : FVec Ideal S64x128 .f32) (i : S64x128.Idx) : rect s i = max (s i) 0 := by
  unfold rect
  pointwise

/-- A received slot is that slot of the sender's product. -/
theorem recvAt_apply (pb : Dev nD → FVec Ideal S8x64x128 .bf16) (c : Dev nD) (k : Fin 7) (a : Fin 64) (b : Fin 128) :
    recvAt (F := Ideal) pb c k (ix3 0 a b) = pb (src c k) (ix3 c a b) := by
  have h : (rect7 k).toLoadRect.idx (ix3 0 a b) = (ix3 k a b : S7x64x128.Idx) := by
    funext d; apply Fin.ext
    fin_cases d
    · show k.val + 0 * 1 = k.val; omega
    · show 0 + 1 * a.val = a.val; omega
    · show 0 + 1 * b.val = b.val; omega
  unfold recvAt
  rw [View.readAt_apply, h]; rfl

/-! ## The sums -/

/-- A device and its seven senders are the eight devices. -/
theorem all_devices : ∀ c : Dev nD, (c :: seven.map (src c)).Perm (List.finRange 8) := by decide +kernel

/-- A sum over received slots at an index. -/
theorem accFold_apply (v : Fin 7 → FVec Ideal S1x64x128 .bf16) (a : Fin 64) (b : Fin 128) :
    ∀ (ks : List (Fin 7)) (s : FVec Ideal S64x128 .f32), accFold (F := Ideal) v ks s (ix2 a b) = s (ix2 a b) + (ks.map fun k => (v k (ix3 0 a b) : EReal)).sum
  | [], s => (add_zero (s (ix2 a b) : EReal)).symm
  | k :: ks, s => by
    refine (accFold_apply v a b ks (accAdd s (v k))).trans ?_
    rw [accAdd_apply, List.map_cons, List.sum_cons]
    exact add_assoc (G := EReal) _ _ _

/-- The reduced slot of device `c` sums slot `c` of everybody's product. -/
theorem accOf_apply (x : Dev nD → FVec Ideal S64x512 .f32) (wi : Dev nD → FVec Ideal S512x1024 .f32) (c : Dev nD) (a : Fin 64) (b : Fin 128) :
    accOf (F := Ideal) x wi c (ix2 a b) = ∑ s : Dev nD, prt (x s) (wi s) (ix3 c a b) := by
  unfold accOf
  rw [accFold_apply, accOwn_apply]
  have h := ((all_devices c).map fun s => (prt (x s) (wi s) (ix3 c a b) : EReal)).sum_eq
  rw [List.map_cons, List.sum_cons, List.map_map] at h
  refine Eq.trans ?_ (h.trans (Fin.sum_univ_def fun s : Fin 8 => (prt (x s) (wi s) (ix3 c a b) : EReal)).symm)
  have e : (fun k => (recvAt (F := Ideal) (fun s => prtB (x s) (wi s)) c k (ix3 0 a b) : EReal)) = (fun s => (prt (x s) (wi s) (ix3 c a b) : EReal)) ∘ src c :=
    funext fun k => (recvAt_apply _ c k a b).trans (prtB_apply _ _ _)
  rw [e]

/-- 4096 terms are eight blocks of 512. -/
theorem sum_blocks (f : Fin 4096 → EReal) : ∑ k, f k = ∑ d : Dev nD, ∑ k : Fin 512, f ⟨d.val * 512 + k.val, by have : d.val < 8 := d.isLt; omega⟩ := by
  refine (Equiv.sum_comp (finProdFinEquiv (m := 8) (n := 512)) f).symm.trans ((Fintype.sum_prod_type _).trans ?_)
  refine Finset.sum_congr rfl fun d _ => Finset.sum_congr rfl fun k _ => congrArg f (Fin.ext ?_)
  show k.val + 512 * d.val = d.val * 512 + k.val
  omega

/-- The next activations at an element: the hidden activations, one's own slot put in its place, times the weight. -/
theorem nxt_apply (c : Dev nD) (r : FVec Ideal S64x128 .bf16) (h : FVec Ideal S8x64x128 .bf16) (w : FVec Ideal S1024x512 .f32) (a : Fin 64) (b : Fin 512) :
    nxt (k0_pay1 c) r h w (ix2 a b) = ∑ k : Fin 1024,
      (if k.val / 128 = c.val then r (ix2 a ⟨k.val % 128, by omega⟩) else h (ix3 ⟨k.val / 128, by omega⟩ a ⟨k.val % 128, by omega⟩)) * w (ix2 k b) := by
  unfold nxt k0_pay17
  pointwise
  refine Finset.sum_congr rfl fun k _ => ?_
  rw [mask_at]
  by_cases h0 : k.val / 128 = c.val
  · rw [if_pos h0, if_pos h0]; rfl
  · rw [if_neg h0, if_neg h0]; rfl

/-! ## A layer -/

/-- A layer of the reference over the whole arrays. -/
abbrev refLayer (X : FVec Ideal Cert.ReferenceIdeal.S64x4096 .f32) (WI : FVec Ideal Cert.ReferenceIdeal.S4096x1024 .f32) (WO : FVec Ideal Cert.ReferenceIdeal.S1024x4096 .f32) :
    FVec Ideal Cert.ReferenceIdeal.S64x4096 .f32 :=
  Host.dotGeneral Cert.ReferenceIdeal.dot_S64x1024_S1024x4096_S64x4096_1_0_0_1_n_n none
    (maximumf (Host.dotGeneral Cert.ReferenceIdeal.dot_S64x4096_S4096x1024_S64x1024_1_0_0_1_n_n none X WI)
      (broadcastInDim Cert.ReferenceIdeal.S64x1024 ![] Cert.ReferenceIdeal.Facts₀.bcast_S_S64x1024 (constant Cert.ReferenceIdeal.S_ .f32 0x00000000#32))) WO

/-- Device `c`'s columns of the activations and of the second weight, and its rows of the first. -/
abbrev colX (X : FVec Ideal Cert.ReferenceIdeal.S64x4096 .f32) (c : Dev nD) : FVec Ideal S64x512 .f32 := Layout.block ⟨2, ![64, 512]⟩ ⟨2, ![64, 4096]⟩ 1 8 c X
abbrev rowI (W : FVec Ideal Cert.ReferenceIdeal.S4096x1024 .f32) (c : Dev nD) : FVec Ideal S512x1024 .f32 := Layout.block ⟨2, ![512, 1024]⟩ ⟨2, ![4096, 1024]⟩ 0 8 c W
abbrev colO (W : FVec Ideal Cert.ReferenceIdeal.S1024x4096 .f32) (c : Dev nD) : FVec Ideal S1024x512 .f32 := Layout.block ⟨2, ![1024, 512]⟩ ⟨2, ![1024, 4096]⟩ 1 8 c W

/-- A device's block of the activations at an element. -/
theorem colX_apply (X : FVec Ideal Cert.ReferenceIdeal.S64x4096 .f32) (c : Dev nD) (a : Fin 64) (b : Fin 512) :
    colX X c (ix2 a b) = X (ix2 a ⟨c.val * 512 + b.val, by have : c.val < 8 := c.isLt; omega⟩) := by
  refine congrArg X (funext fun d => Fin.ext ?_); fin_cases d <;> rfl
/-- A device's block of a first weight at an element. -/
theorem rowI_apply (W : FVec Ideal Cert.ReferenceIdeal.S4096x1024 .f32) (c : Dev nD) (a : Fin 512) (b : Fin 1024) :
    rowI W c (ix2 a b) = W (ix2 ⟨c.val * 512 + a.val, by have : c.val < 8 := c.isLt; omega⟩ b) := by
  refine congrArg W (funext fun d => Fin.ext ?_); fin_cases d <;> rfl
/-- A device's block of a second weight at an element. -/
theorem colO_apply (W : FVec Ideal Cert.ReferenceIdeal.S1024x4096 .f32) (c : Dev nD) (a : Fin 1024) (b : Fin 512) :
    colO W c (ix2 a b) = W (ix2 a ⟨c.val * 512 + b.val, by have : c.val < 8 := c.isLt; omega⟩) := by
  refine congrArg W (funext fun d => Fin.ext ?_); fin_cases d <;> rfl

/-- A layer of the reference at an element. -/
theorem refLayer_apply (X : FVec Ideal Cert.ReferenceIdeal.S64x4096 .f32) (WI : FVec Ideal Cert.ReferenceIdeal.S4096x1024 .f32) (WO : FVec Ideal Cert.ReferenceIdeal.S1024x4096 .f32)
    (a : Fin 64) (b : Fin 4096) :
    refLayer X WI WO (ix2 a b) = ∑ k : Fin 1024, max (∑ j : Fin 4096, X (ix2 a j) * WI (ix2 j k)) 0 * WO (ix2 k b) := by
  unfold refLayer
  pointwise

/-- The reduced slot of device `c` is its 128 columns of the whole first product. -/
theorem accOf_block (X : FVec Ideal Cert.ReferenceIdeal.S64x4096 .f32) (WI : FVec Ideal Cert.ReferenceIdeal.S4096x1024 .f32) (c : Dev nD) (a : Fin 64) (b : Fin 128) (k : Fin 1024)
    (hk : k.val = c.val * 128 + b.val) :
    accOf (F := Ideal) (colX X) (rowI WI) c (ix2 a b) = ∑ j : Fin 4096, X (ix2 a j) * WI (ix2 j k) := by
  rw [accOf_apply]
  refine Eq.trans ?_ (sum_blocks fun j => X (ix2 a j) * WI (ix2 j k)).symm
  refine Finset.sum_congr rfl fun s _ => (prt_apply _ _ _ _ _).trans (Finset.sum_congr rfl fun j _ => ?_)
  rw [colX_apply, rowI_apply]
  rw [show (⟨c.val * 128 + b.val, by omega⟩ : Fin 1024) = k from Fin.ext hk.symm]

/-- A layer of the eight devices on blocks is the reference's layer's block. -/
theorem layer_block (X : FVec Ideal Cert.ReferenceIdeal.S64x4096 .f32) (WI : FVec Ideal Cert.ReferenceIdeal.S4096x1024 .f32) (WO : FVec Ideal Cert.ReferenceIdeal.S1024x4096 .f32)
    (c : Dev nD) : nextOf (F := Ideal) (colX X) (rowI WI) (colO WO) c = colX (refLayer X WI WO) c := by
  funext i
  obtain ⟨a, b, rfl⟩ : ∃ (a : Fin 64) (b : Fin 512), i = ix2 a b := ⟨i 0, i 1, (ValueIdx.eq_ix2 i)⟩
  rw [colX_apply, refLayer_apply]
  unfold nextOf
  rw [nxt_apply]
  refine Finset.sum_congr rfl fun k _ => ?_
  rw [colO_apply]
  congr 1
  have hk := k.isLt
  by_cases h0 : k.val / 128 = c.val
  · rw [if_pos h0, rect_apply, accOf_block X WI c a _ k (by show k.val = _ * 128 + k.val % 128; omega)]
  · rw [if_neg h0, show mH.view.readAt (Elt Ideal) r8.toLoadRect (hidOf (accOf (F := Ideal) (colX X) (rowI WI))) = hidOf (accOf (F := Ideal) (colX X) (rowI WI)) from Memref.readAt_unit_zero (Elt Ideal) cc0_scratch2 hz3 _ _]
    refine (rectS_apply _ _).trans ?_
    exact congrArg (max · 0) (accOf_block X WI ⟨k.val / 128, by show k.val / 128 < 8; omega⟩ a ⟨k.val % 128, by omega⟩ k (by show k.val = k.val / 128 * 128 + k.val % 128; omega))

/-- Three layers, from blocks, are the reference's three layers' block. -/
theorem acts_block (I : Inp Ideal) (X : FVec Ideal Cert.ReferenceIdeal.S64x4096 .f32) (WI : ℕ → FVec Ideal Cert.ReferenceIdeal.S4096x1024 .f32) (WO : ℕ → FVec Ideal Cert.ReferenceIdeal.S1024x4096 .f32)
    (hx : I.x = colX X) (hi : ∀ l < 3, I.wi l = rowI (WI l)) (ho : ∀ l < 3, I.wo l = colO (WO l)) :
    acts I 3 = colX (refLayer (refLayer (refLayer X (WI 0) (WO 0)) (WI 1) (WO 1)) (WI 2) (WO 2)) := by
  have h0 : acts I 0 = colX X := funext fun c => (shapeCast_self _ _).trans (congrFun hx c)
  have step (l : ℕ) (hl : l < 3) (Y : FVec Ideal Cert.ReferenceIdeal.S64x4096 .f32) (h : acts I l = colX Y) : acts I (l + 1) = colX (refLayer Y (WI l) (WO l)) := by
    show nextOf (acts I l) (I.wi l) (I.wo l) = _
    rw [h, hi l hl, ho l hl]
    exact funext fun c => layer_block Y (WI l) (WO l) c
  exact step 2 (by omega) _ (step 1 (by omega) _ (step 0 (by omega) _ h0))

end Cert.Mlp

end
-- ==== Proof.Algebraic.lean ====
/-
The algebraic claim: over the extended reals each device's result is its columns of the reference's.
-/
module

public import proofs.«01_k».proof.Defs
public import proofs.«01_k».proof.Proof.Frames
public import proofs.«01_k».proof.Proof.Value
public import proofs.«01_k».proof.Proof.Gen.ReferenceIdeal.Run

@[expose] public section

noncomputable section

namespace Cert.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 eq_ix2 eq_ix3)

variable (m : (ℓ : Loc nD τ sig) → Buf (Elt Ideal) ℓ) (ρ : Dev nD → PrngReg)

/-- Window 0 is the whole of its array. -/
theorem staged0 (c : Dev nD) : (inp m).x c = m ((c : Thread nD τ).loc main_arg0) := by
  refine funext fun i => congrArg (m ((c : Thread nD τ).loc main_arg0)) (funext fun d => Fin.ext ?_)
  fin_cases d
  · show 0 * _ + 1 * (i 0).val = (i 0).val; omega
  · show 0 * _ + 1 * (i 1).val = (i 1).val; omega

/-- Window 1 is the whole of its array. -/
theorem staged1 (c : Dev nD) : (inp m).wi 0 c = m ((c : Thread nD τ).loc main_arg1) := by
  refine funext fun i => congrArg (m ((c : Thread nD τ).loc main_arg1)) (funext fun d => Fin.ext ?_)
  fin_cases d
  · show 0 * _ + 1 * (i 0).val = (i 0).val; omega
  · show 0 * _ + 1 * (i 1).val = (i 1).val; omega

/-- Window 3 is the whole of its array. -/
theorem staged3 (c : Dev nD) : (inp m).wi 1 c = m ((c : Thread nD τ).loc main_arg2) := by
  refine funext fun i => congrArg (m ((c : Thread nD τ).loc main_arg2)) (funext fun d => Fin.ext ?_)
  fin_cases d
  · show 0 * _ + 1 * (i 0).val = (i 0).val; omega
  · show 0 * _ + 1 * (i 1).val = (i 1).val; omega

/-- Window 5 is the whole of its array. -/
theorem staged5 (c : Dev nD) : (inp m).wi 2 c = m ((c : Thread nD τ).loc main_arg3) := by
  refine funext fun i => congrArg (m ((c : Thread nD τ).loc main_arg3)) (funext fun d => Fin.ext ?_)
  fin_cases d
  · show 0 * _ + 1 * (i 0).val = (i 0).val; omega
  · show 0 * _ + 1 * (i 1).val = (i 1).val; omega

/-- Window 2 is the whole of its array. -/
theorem staged2 (c : Dev nD) : (inp m).wo 0 c = m ((c : Thread nD τ).loc main_arg4) := by
  refine funext fun i => congrArg (m ((c : Thread nD τ).loc main_arg4)) (funext fun d => Fin.ext ?_)
  fin_cases d
  · show 0 * _ + 1 * (i 0).val = (i 0).val; omega
  · show 0 * _ + 1 * (i 1).val = (i 1).val; omega

/-- Window 4 is the whole of its array. -/
theorem staged4 (c : Dev nD) : (inp m).wo 1 c = m ((c : Thread nD τ).loc main_arg5) := by
  refine funext fun i => congrArg (m ((c : Thread nD τ).loc main_arg5)) (funext fun d => Fin.ext ?_)
  fin_cases d
  · show 0 * _ + 1 * (i 0).val = (i 0).val; omega
  · show 0 * _ + 1 * (i 1).val = (i 1).val; omega

/-- Window 6 is the whole of its array. -/
theorem staged6 (c : Dev nD) : (inp m).wo 2 c = m ((c : Thread nD τ).loc main_arg6) := by
  refine funext fun i => congrArg (m ((c : Thread nD τ).loc main_arg6)) (funext fun d => Fin.ext ?_)
  fin_cases d
  · show 0 * _ + 1 * (i 0).val = (i 0).val; omega
  · show 0 * _ + 1 * (i 1).val = (i 1).val; omega

/-- Over the extended reals, from arguments that are the blocks of the reference's, every device ends with its 512 columns of the reference's result. -/
theorem algebraic : Cert.algebraic_KernelIdeal_ReferenceIdeal := fun m ρ m' ρ' _ hin => by
  let A (b : Ref Cert.ReferenceIdeal.sig .tc) := m' (((0 : Dev Cert.ReferenceIdeal.nD).tc : Thread Cert.ReferenceIdeal.nD Cert.ReferenceIdeal.τ).loc b)
  let WI : ℕ → FVec Ideal Cert.ReferenceIdeal.S4096x1024 .f32 := fun
    | 0 => A Cert.ReferenceIdeal.main_arg1 | 1 => A Cert.ReferenceIdeal.main_arg2 | _ => A Cert.ReferenceIdeal.main_arg3
  let WO : ℕ → FVec Ideal Cert.ReferenceIdeal.S1024x4096 .f32 := fun
    | 0 => A Cert.ReferenceIdeal.main_arg4 | 1 => A Cert.ReferenceIdeal.main_arg5 | _ => A Cert.ReferenceIdeal.main_arg6
  have hx : (inp m).x = colX (A Cert.ReferenceIdeal.main_arg0) := funext fun c => (staged0 m c).trans (hin c).1
  have hi : ∀ l < 3, (inp m).wi l = rowI (WI l)
    | 0, _ => funext fun c => (staged1 m c).trans (hin c).2.1
    | 1, _ => funext fun c => (staged3 m c).trans (hin c).2.2.1
    | 2, _ => funext fun c => (staged5 m c).trans (hin c).2.2.2.1
  have ho : ∀ l < 3, (inp m).wo l = colO (WO l)
    | 0, _ => funext fun c => (staged2 m c).trans (hin c).2.2.2.2.1
    | 1, _ => funext fun c => (staged4 m c).trans (hin c).2.2.2.2.2.1
    | 2, _ => funext fun c => (staged6 m c).trans (hin c).2.2.2.2.2.2
  have hv := acts_block (inp m) _ WI WO hx hi ho
  refine ⟨refLayer (refLayer (refLayer (A Cert.ReferenceIdeal.main_arg0) (WI 0) (WO 0)) (WI 1) (WO 1)) (WI 2) (WO 2), ?_, ?_⟩
  · exact (θ_run Cert.KernelIdeal.defs _ _).mono (fun _ h c => ⟨(result m ρ h.1 c).trans (congrFun hv c), kept m ρ h.1 c⟩) (run_main (F := Ideal) m ρ)
  · exact (θ_run Cert.ReferenceIdeal.defs _ _).mono (fun _ h => h 0) (Cert.ReferenceIdeal.Value.run (F := Ideal) m' ρ')

end Cert.Mlp

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The reference has no semaphore, so every counter of it is zero. -/
theorem no_counter (f : GSem Cert.ReferenceIdeal.nD Cert.ReferenceIdeal.τ Cert.ReferenceIdeal.sig → ℤ) : f = fun _ => 0 :=
  funext fun ⟨_, sm⟩ => by
    rcases sm with i | i
    · exact i.elim0
    · exact i.elim0

/-- The reference's frame, from its run. -/
theorem frame_reference : Cert.quiescent_ReferenceIdeal := fun m ρ _ =>
  (θ_run Cert.ReferenceIdeal.defs _ _).mono (fun _ h => ⟨fun c => (h c).2, no_counter _⟩) (Cert.ReferenceIdeal.Value.run (F := Ideal) m ρ)

/-- All five claims. -/
theorem claim : Cert.Claim := ⟨Cert.Kernel.Gen.facts, Cert.KernelIdeal.Gen.facts, Cert.ReferenceIdeal.Gen.facts,
  Cert.Mlp.frame_kernel, Cert.Mlp.frame_kernelIdeal, frame_reference, trivial, Cert.Mlp.algebraic⟩

end Cert.Proof

end
